-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S256x163840 : Shape := ⟨2, ![256, 163840]⟩
abbrev S256x80 : Shape := ⟨2, ![256, 80]⟩
abbrev S80x2048 : Shape := ⟨2, ![80, 2048]⟩
abbrev S_ : Shape := ⟨0, ![]⟩

class Facts : Prop where
  bcast_S_S256x163840 : S_.BroadcastsInDim S256x163840 (![] : Fin 0 → Fin S256x163840.rank)
  bcast_S_S80x2048 : S_.BroadcastsInDim S80x2048 (![] : Fin 0 → Fin S80x2048.rank)

variable [Facts]

def fn {F : FTy → Type} [FloatOps F] (main_arg0 : FVec F S256x163840 .f32) (main_arg1 : IVec S256x80 32) (main_arg2 : FVec F S80x2048 .f32) : IVec S256x163840 1 × IVec S80x2048 1 :=
  let main_v0 : FVec F S256x163840 .f32 := Host.absf main_arg0
  let main_cst : FVec F S_ .f32 := constant S_ .f32 0x7F800000#32
  let main_v1 : FVec F S256x163840 .f32 := broadcastInDim S256x163840 ![] bcast_S_S256x163840 main_cst
  let main_v2 : IVec S256x163840 1 := cmpf .olt main_v0 main_v1
  let main_v3 : FVec F S80x2048 .f32 := Host.absf main_arg2
  let main_cst_0 : FVec F S_ .f32 := constant S_ .f32 0x7F800000#32
  let main_v4 : FVec F S80x2048 .f32 := broadcastInDim S80x2048 ![] bcast_S_S80x2048 main_cst_0
  let main_v5 : IVec S80x2048 1 := cmpf .olt main_v3 main_v4
  (main_v2, main_v5)
-- ==== Kernel.lean ====
abbrev S256x163840 : Shape := ⟨2, ![256, 163840]⟩
abbrev S256x80 : Shape := ⟨2, ![256, 80]⟩
abbrev S80x2048 : Shape := ⟨2, ![80, 2048]⟩
abbrev S1x1 : Shape := ⟨2, ![1, 1]⟩
abbrev S128x80 : Shape := ⟨2, ![128, 80]⟩
abbrev S128x32768 : Shape := ⟨2, ![128, 32768]⟩
abbrev S1 : Shape := ⟨1, ![1]⟩
abbrev S128 : Shape := ⟨1, ![128]⟩
abbrev S128x1 : Shape := ⟨2, ![128, 1]⟩
abbrev S128x2048 : Shape := ⟨2, ![128, 2048]⟩
abbrev S1x128x1 : Shape := ⟨3, ![1, 128, 1]⟩
abbrev S1x1x1 : Shape := ⟨3, ![1, 1, 1]⟩
abbrev S_ : Shape := ⟨0, ![]⟩

abbrev nBuf : Space → Nat
  | .hbm => 7
  | .vmem => 5
  | .smem => 4
  | _ => 0

abbrev bufTy : (tb : Table) → Fin (tcTables nBuf tb) → BufTy
  | .hbm, ⟨0, _⟩ => ⟨S256x163840, .f32⟩
  | .hbm, ⟨1, _⟩ => ⟨S256x80, .i32⟩
  | .hbm, ⟨2, _⟩ => ⟨S80x2048, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .local _ .vmem, ⟨0, _⟩ => ⟨S128x80, .i32⟩
  | .local _ .vmem, ⟨1, _⟩ => ⟨S128x80, .i32⟩
  | .local _ .vmem, ⟨2, _⟩ => ⟨S128x32768, .f32⟩
  | .local _ .vmem, ⟨3, _⟩ => ⟨S128x32768, .f32⟩
  | .local _ .vmem, ⟨4, _⟩ => ⟨S80x2048, .f32⟩
  | .local _ .smem, ⟨0, _⟩ => ⟨S1x1, .f32⟩
  | .local _ .smem, ⟨1, _⟩ => ⟨S1x1, .f32⟩
  | .local _ .smem, ⟨2, _⟩ => ⟨S1, .f32⟩
  | .local _ .smem, ⟨3, _⟩ => ⟨S1, .f32⟩
  | _, _ => ⟨S256x163840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.smem, 0, rfl⟩
abbrev cc0_stg4_0 : Ref sig .tc := ⟨.smem, 1, rfl⟩
abbrev cc0_scratch0 : Ref sig .tc := ⟨.smem, 2, rfl⟩
abbrev cc0_scratch1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg0 : BitVec 32 := BitVec.ofNat 32 (i 0).val
  let c1_i32_215 : BitVec 32 := 1#32
  let v668 : BitVec 1 := Scalar.cmpi .eq arg0 c1_i32_215
  let arg1 : BitVec 32 := BitVec.ofNat 32 (i 1).val
  let c4_i32_216 : BitVec 32 := 4#32
  let v669 : BitVec 1 := Scalar.cmpi .eq arg1 c4_i32_216
  let v670 : BitVec 1 := Scalar.andi v668 v669
  let v671 : BitVec 32 := Scalar.extui v670
  let c0_i32_217 : BitVec 32 := 0#32
  let v672 : BitVec 1 := Scalar.cmpi .ne v671 c0_i32_217
  v672

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x80 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S80x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S256x163840 : Shape := ⟨2, ![256, 163840]⟩
abbrev S256x80 : Shape := ⟨2, ![256, 80]⟩
abbrev S80x2048 : Shape := ⟨2, ![80, 2048]⟩
abbrev S256x80x2048 : Shape := ⟨3, ![256, 80, 2048]⟩
abbrev S256x80x80 : Shape := ⟨3, ![256, 80, 80]⟩
abbrev S_ : Shape := ⟨0, ![]⟩
abbrev S80 : Shape := ⟨1, ![80]⟩
abbrev S80x1 : Shape := ⟨2, ![80, 1]⟩
abbrev S80x2 : Shape := ⟨2, ![80, 2]⟩
abbrev S256 : Shape := ⟨1, ![256]⟩
abbrev S1x80 : Shape := ⟨2, ![1, 80]⟩

abbrev nBuf : Space → Nat
  | .hbm => 70
  | .vmem => 0
  | .smem => 0
  | _ => 0

abbrev bufTy : (tb : Table) → Fin (tcTables nBuf tb) → BufTy
  | .hbm, ⟨0, _⟩ => ⟨S256x163840, .f32⟩
  | .hbm, ⟨1, _⟩ => ⟨S256x80, .i32⟩
  | .hbm, ⟨2, _⟩ => ⟨S80x2048, .f32⟩
  | .hbm, ⟨3, _⟩ => ⟨S256x80x2048, .f32⟩
  | .hbm, ⟨4, _⟩ => ⟨S256x80x80, .f32⟩
  | .hbm, ⟨5, _⟩ => ⟨S_, .i32⟩
  | .hbm, ⟨6, _⟩ => ⟨S256x80, .i32⟩
  | .hbm, ⟨7, _⟩ => ⟨S256x80, .i1⟩
  | .hbm, ⟨8, _⟩ => ⟨S256x80, .f32⟩
  | .hbm, ⟨9, _⟩ => ⟨S256x80x80, .f32⟩
  | .hbm, ⟨10, _⟩ => ⟨S_, .f32⟩
  | .hbm, ⟨11, _⟩ => ⟨S256x80, .f32⟩
  | .hbm, ⟨12, _⟩ => ⟨S256x80, .f32⟩
  | .hbm, ⟨13, _⟩ => ⟨S80, .i32⟩
  | .hbm, ⟨14, _⟩ => ⟨S80, .i32⟩
  | .hbm, ⟨15, _⟩ => ⟨S_, .i32⟩
  | .hbm, ⟨16, _⟩ => ⟨S80, .i32⟩
  | .hbm, ⟨17, _⟩ => ⟨S80, .i1⟩
  | .hbm, ⟨18, _⟩ => ⟨S_, .i32⟩
  | .hbm, ⟨19, _⟩ => ⟨S80, .i32⟩
  | .hbm, ⟨20, _⟩ => ⟨S80, .i32⟩
  | .hbm, ⟨21, _⟩ => ⟨S80, .i32⟩
  | .hbm, ⟨22, _⟩ => ⟨S_, .i32⟩
  | .hbm, ⟨23, _⟩ => ⟨S80, .i32⟩
  | .hbm, ⟨24, _⟩ => ⟨S80, .i1⟩
  | .hbm, ⟨25, _⟩ => ⟨S_, .i32⟩
  | .hbm, ⟨26, _⟩ => ⟨S80, .i32⟩
  | .hbm, ⟨27, _⟩ => ⟨S80, .i32⟩
  | .hbm, ⟨28, _⟩ => ⟨S80, .i32⟩
  | .hbm, ⟨29, _⟩ => ⟨S80x1, .i32⟩
  | .hbm, ⟨30, _⟩ => ⟨S80x1, .i32⟩
  | .hbm, ⟨31, _⟩ => ⟨S80x2, .i32⟩
  | .hbm, ⟨32, _⟩ => ⟨S256x80, .f32⟩
  | .hbm, ⟨33, _⟩ => ⟨S256x80, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .i1⟩
  | .hbm, ⟨39, _⟩ => ⟨S256x80, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S256x80x80, .i32⟩
  | .hbm, ⟨55, _⟩ => ⟨S_, .f32⟩
  | .hbm, ⟨56, _⟩ => ⟨S_, .i32⟩
  | .hbm, ⟨57, _⟩ => ⟨S256x80, .f32⟩
  | .hbm, ⟨58, _⟩ => ⟨S256x80, .i32⟩
  | .hbm, ⟨59, _⟩ => ⟨S80, .i32⟩
  | .hbm, ⟨60, _⟩ => ⟨S1x80, .i32⟩
  | .hbm, ⟨61, _⟩ => ⟨S256x80, .i32⟩
  | .hbm, ⟨62, _⟩ => ⟨S256x80, .i1⟩
  | .hbm, ⟨63, _⟩ => ⟨S256x80, .i1⟩
  | .hbm, ⟨64, _⟩ => ⟨S256x80, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S256x163840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_c : Ref sig .tc := ⟨.hbm, 15, rfl⟩
abbrev main_call0_v2 : Ref sig .tc := ⟨.hbm, 16, rfl⟩
abbrev main_call0_v3 : Ref sig .tc := ⟨.hbm, 17, rfl⟩
abbrev main_call0_c_0 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_v7 : Ref sig .tc := ⟨.hbm, 23, rfl⟩
abbrev main_call0_v8 : Ref sig .tc := ⟨.hbm, 24, rfl⟩
abbrev main_call0_c_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_cst_6 : Ref sig .tc := ⟨.hbm, 52, rfl⟩
abbrev main_v20 : Ref sig .tc := ⟨.hbm, 53, rfl⟩
abbrev main_call2_v0 : Ref sig .tc := ⟨.hbm, 54, rfl⟩
abbrev main_call2_cst : Ref sig .tc := ⟨.hbm, 55, rfl⟩
abbrev main_call2_c : Ref sig .tc := ⟨.hbm, 56, rfl⟩
abbrev main_call2_v1_0 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_7 : Ref sig .tc := ⟨.hbm, 65, rfl⟩
abbrev main_v28 : Ref sig .tc := ⟨.hbm, 66, rfl⟩
abbrev main_cst_8 : Ref sig .tc := ⟨.hbm, 67, rfl⟩
abbrev main_v29 : Ref sig .tc := ⟨.hbm, 68, rfl⟩
abbrev main_v30 : Ref sig .tc := ⟨.hbm, 69, rfl⟩

abbrev nD : Nat := 1
abbrev τ : Topo := Topo.v7x

variable {F : FTy → Type} [FloatOps F]
-- ==== Proof.RefRun.lean ====
/- The reference program as one line of host operations, and what its run leaves in its two result buffers, over named
   intermediate arrays: the logits, the mask, the cross entropies, the predictions. -/
module
public import proofs.«01_k».proof.Proof.Gen.ReferenceIdeal
public import Idealize.ShloMosaic.Lib.StableHlo.Run
public import Idealize.ShloMosaic.Lib.Quiescent
@[expose] public section
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

/-- Two index columns side by side: the row of start indices the diagonal is gathered at. -/
def pairs : (main_call0_v12 : Ref sig .tc).ty.Contents (Elt F) → (main_call0_v13 : Ref sig .tc).ty.Contents (Elt F) → (main_call0_v14 : Ref sig .tc).ty.Contents (Elt F) :=
  (fun a b => concatenate S80x2 1 [⟨S80x1, a⟩, ⟨S80x1, b⟩] concatenates_S80x1_S80x1_S80x2_d1)

/-- The 67 host operations of the reference, in order. -/
abbrev ops : List (HloOp τ sig (Elt F)) :=
  [ reshape main_arg0 main_v0 (rfl : (.f32 : EltTy) = .f32) shapeCasts_S256x163840_S256x80x2048,
    binary main_v0 main_arg2 main_v1 ((fun l r => Host.dotGeneral dot_S256x80x2048_S80x2048_S256x80x80_2_1_01_0_n_n none l r) : (⟨S256x80x2048, .f32⟩ : BufTy).Contents (Elt F) → (⟨S80x2048, .f32⟩ : BufTy).Contents (Elt F) → (⟨S256x80x80, .f32⟩ : BufTy).Contents (Elt F)),
    nullary main_c (constantI S_ 32 0#32),
    unary main_c main_v2 (broadcastInDim S256x80 ![] bcast_S_S256x80 : (⟨S_, .i32⟩ : BufTy).Contents (Elt F) → (⟨S256x80, .i32⟩ : BufTy).Contents (Elt F)),
    binary main_arg1 main_v2 main_v3 (cmpi .sgt : (⟨S256x80, .i32⟩ : BufTy).Contents (Elt F) → (⟨S256x80, .i32⟩ : BufTy).Contents (Elt F) → (⟨S256x80, .i1⟩ : BufTy).Contents (Elt F)),
    unary main_v3 main_v4 (uitofp .f32 : (⟨S256x80, .i1⟩ : BufTy).Contents (Elt F) → (⟨S256x80, .f32⟩ : BufTy).Contents (Elt F)),
    unary main_v1 main_v5 (Host.exp : (⟨S256x80x80, .f32⟩ : BufTy).Contents (Elt F) → (⟨S256x80x80, .f32⟩ : BufTy).Contents (Elt F)),
    nullary main_cst (constant S_ .f32 0x00000000#32),
    binary main_v5 main_cst main_v6 ((fun x v => Host.reduceAdd x v reducesTo_S256x80x80_S256x80_d2 h_S_) : (⟨S256x80x80, .f32⟩ : BufTy).Contents (Elt F) → (⟨S_, .f32⟩ : BufTy).Contents (Elt F) → (⟨S256x80, .f32⟩ : BufTy).Contents (Elt F)),
    unary main_v6 main_v7 (Host.log : (⟨S256x80, .f32⟩ : BufTy).Contents (Elt F) → (⟨S256x80, .f32⟩ : BufTy).Contents (Elt F)),
    TRef.nullary (TRef.of (T := ⟨S80, .i32⟩) main_call0_v0) (iotaInDim S80 32 0),
    TRef.nullary (TRef.of (T := ⟨S80, .i32⟩) main_call0_v1) (iotaInDim S80 32 0),
    TRef.nullary (TRef.of (T := ⟨S_, .i32⟩) main_call0_c) (constantI S_ 32 0#32),
    TRef.unary (TRef.of (T := ⟨S_, .i32⟩) main_call0_c) (TRef.of (T := ⟨S80, .i32⟩) main_call0_v2) (broadcastInDim S80 ![] bcast_S_S80),
    TRef.binary (TRef.of (T := ⟨S80, .i32⟩) main_call0_v0) (TRef.of (T := ⟨S80, .i32⟩) main_call0_v2) (TRef.of (T := ⟨S80, .i1⟩) main_call0_v3) (cmpi .slt),
    TRef.nullary (TRef.of (T := ⟨S_, .i32⟩) main_call0_c_0) (constantI S_ 32 80#32),
    TRef.unary (TRef.of (T := ⟨S_, .i32⟩) main_call0_c_0) (TRef.of (T := ⟨S80, .i32⟩) main_call0_v4) (broadcastInDim S80 ![] bcast_S_S80),
    TRef.binary (TRef.of (T := ⟨S80, .i32⟩) main_call0_v0) (TRef.of (T := ⟨S80, .i32⟩) main_call0_v4) (TRef.of (T := ⟨S80, .i32⟩) main_call0_v5) addi,
    TRef.ternary (TRef.of (T := ⟨S80, .i1⟩) main_call0_v3) (TRef.of (T := ⟨S80, .i32⟩) main_call0_v5) (TRef.of (T := ⟨S80, .i32⟩) main_call0_v0) (TRef.of (T := ⟨S80, .i32⟩) main_call0_v6) select,
    TRef.nullary (TRef.of (T := ⟨S_, .i32⟩) main_call0_c_1) (constantI S_ 32 0#32),
    TRef.unary (TRef.of (T := ⟨S_, .i32⟩) main_call0_c_1) (TRef.of (T := ⟨S80, .i32⟩) main_call0_v7) (broadcastInDim S80 ![] bcast_S_S80),
    TRef.binary (TRef.of (T := ⟨S80, .i32⟩) main_call0_v1) (TRef.of (T := ⟨S80, .i32⟩) main_call0_v7) (TRef.of (T := ⟨S80, .i1⟩) main_call0_v8) (cmpi .slt),
    TRef.nullary (TRef.of (T := ⟨S_, .i32⟩) main_call0_c_2) (constantI S_ 32 80#32),
    TRef.unary (TRef.of (T := ⟨S_, .i32⟩) main_call0_c_2) (TRef.of (T := ⟨S80, .i32⟩) main_call0_v9) (broadcastInDim S80 ![] bcast_S_S80),
    TRef.binary (TRef.of (T := ⟨S80, .i32⟩) main_call0_v1) (TRef.of (T := ⟨S80, .i32⟩) main_call0_v9) (TRef.of (T := ⟨S80, .i32⟩) main_call0_v10) addi,
    TRef.ternary (TRef.of (T := ⟨S80, .i1⟩) main_call0_v8) (TRef.of (T := ⟨S80, .i32⟩) main_call0_v10) (TRef.of (T := ⟨S80, .i32⟩) main_call0_v1) (TRef.of (T := ⟨S80, .i32⟩) main_call0_v11) select,
    TRef.unary (TRef.of (T := ⟨S80, .i32⟩) main_call0_v6) (TRef.of (T := ⟨S80x1, .i32⟩) main_call0_v12) (broadcastInDim S80x1 ![0] bcast_S80_S80x1_0),
    TRef.unary (TRef.of (T := ⟨S80, .i32⟩) main_call0_v11) (TRef.of (T := ⟨S80x1, .i32⟩) main_call0_v13) (broadcastInDim S80x1 ![0] bcast_S80_S80x1_0),
    TRef.binary (TRef.of (T := ⟨S80x1, .i32⟩) main_call0_v12) (TRef.of (T := ⟨S80x1, .i32⟩) main_call0_v13) (TRef.of (T := ⟨S80x2, .i32⟩) main_call0_v14) (pairs (F := F)),
    TRef.binary (TRef.of (T := ⟨S256x80x80, .f32⟩) main_v1) (TRef.of (T := ⟨S80x2, .i32⟩) main_call0_v14) (TRef.of (T := ⟨S256x80, .f32⟩) main_v8) (fun x i => Host.gather gather_S256x80x80_S80x2_S256x80_0_12_n_n_12_1_25611 x i),
    binary main_v7 main_v8 main_v9 (subf : (⟨S256x80, .f32⟩ : BufTy).Contents (Elt F) → (⟨S256x80, .f32⟩ : BufTy).Contents (Elt F) → (⟨S256x80, .f32⟩ : BufTy).Contents (Elt F)),
    nullary main_cst_0 (constant S_ .f32 0x00000000#32),
    binary main_v4 main_cst_0 main_v10 ((fun x v => Host.reduceAdd x v reducesTo_S256x80_S256_d1 h_S_) : (⟨S256x80, .f32⟩ : BufTy).Contents (Elt F) → (⟨S_, .f32⟩ : BufTy).Contents (Elt F) → (⟨S256, .f32⟩ : BufTy).Contents (Elt F)),
    nullary main_cst_1 (constant S_ .f32 0x00000000#32),
    unary main_cst_1 main_v11 (broadcastInDim S256 ![] bcast_S_S256 : (⟨S_, .f32⟩ : BufTy).Contents (Elt F) → (⟨S256, .f32⟩ : BufTy).Contents (Elt F)),
    binary main_v10 main_v11 main_v12 (cmpf .ogt : (⟨S256, .f32⟩ : BufTy).Contents (Elt F) → (⟨S256, .f32⟩ : BufTy).Contents (Elt F) → (⟨S256, .i1⟩ : BufTy).Contents (Elt F)),
    binary main_v9 main_v4 main_v13 (mulf : (⟨S256x80, .f32⟩ : BufTy).Contents (Elt F) → (⟨S256x80, .f32⟩ : BufTy).Contents (Elt F) → (⟨S256x80, .f32⟩ : BufTy).Contents (Elt F)),
    nullary main_cst_2 (constant S_ .f32 0x00000000#32),
    binary main_v13 main_cst_2 main_v14 ((fun x v => Host.reduceAdd x v reducesTo_S256x80_S256_d1 h_S_) : (⟨S256x80, .f32⟩ : BufTy).Contents (Elt F) → (⟨S_, .f32⟩ : BufTy).Contents (Elt F) → (⟨S256, .f32⟩ : BufTy).Contents (Elt F)),
    nullary main_cst_3 (constant S_ .f32 0x3F800000#32),
    unary main_cst_3 main_v15 (broadcastInDim S256 ![] bcast_S_S256 : (⟨S_, .f32⟩ : BufTy).Contents (Elt F) → (⟨S256, .f32⟩ : BufTy).Contents (Elt F)),
    binary main_v10 main_v15 main_v16 (maximumf : (⟨S256, .f32⟩ : BufTy).Contents (Elt F) → (⟨S256, .f32⟩ : BufTy).Contents (Elt F) → (⟨S256, .f32⟩ : BufTy).Contents (Elt F)),
    binary main_v14 main_v16 main_v17 (Host.divf : (⟨S256, .f32⟩ : BufTy).Contents (Elt F) → (⟨S256, .f32⟩ : BufTy).Contents (Elt F) → (⟨S256, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S256, .f32⟩) main_call1_v1) (broadcastInDim S256 ![] bcast_S_S256),
    TRef.ternary (TRef.of (T := ⟨S256, .i1⟩) main_v12) (TRef.of (T := ⟨S256, .f32⟩) main_v17) (TRef.of (T := ⟨S256, .f32⟩) main_call1_v1) (TRef.of (T := ⟨S256, .f32⟩) main_v18) select,
    nullary main_cst_5 (constant S_ .f32 0x00000000#32),
    binary main_v18 main_cst_5 main_v19 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_6 (constant S_ .f32 0x43800000#32),
    binary main_v19 main_cst_6 main_v20 (Host.divf : (⟨S_, .f32⟩ : BufTy).Contents (Elt F) → (⟨S_, .f32⟩ : BufTy).Contents (Elt F) → (⟨S_, .f32⟩ : BufTy).Contents (Elt F)),
    TRef.nullary (TRef.of (T := ⟨S256x80x80, .i32⟩) main_call2_v0) (iotaInDim S256x80x80 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S256x80x80, .f32⟩) main_v1) (TRef.of (T := ⟨S256x80x80, .i32⟩) main_call2_v0) (TRef.of (T := ⟨S_, .f32⟩) main_call2_cst) (TRef.of (T := ⟨S_, .i32⟩) main_call2_c) (TRef.of (T := ⟨S256x80, .f32⟩) main_call2_v1_0) (fun x y u v j => (Host.argReduce reducer_argmax_f32_i32 x y u v reducesTo_S256x80x80_S256x80_d2 h_S_ j).1),
    TRef.quaternary (TRef.of (T := ⟨S256x80x80, .f32⟩) main_v1) (TRef.of (T := ⟨S256x80x80, .i32⟩) main_call2_v0) (TRef.of (T := ⟨S_, .f32⟩) main_call2_cst) (TRef.of (T := ⟨S_, .i32⟩) main_call2_c) (TRef.of (T := ⟨S256x80, .i32⟩) main_v21) (fun x y u v j => (Host.argReduce reducer_argmax_f32_i32 x y u v reducesTo_S256x80x80_S256x80_d2 h_S_ j).2),
    nullary main_v22 (iotaInDim S80 32 0),
    unary main_v22 main_v23 (broadcastInDim S1x80 ![1] bcast_S80_S1x80_1 : (⟨S80, .i32⟩ : BufTy).Contents (Elt F) → (⟨S1x80, .i32⟩ : BufTy).Contents (Elt F)),
    unary main_v23 main_v24 (broadcastInDim S256x80 ![0, 1] bcast_S1x80_S256x80_0_1 : (⟨S1x80, .i32⟩ : BufTy).Contents (Elt F) → (⟨S256x80, .i32⟩ : BufTy).Contents (Elt F)),
    binary main_v21 main_v24 main_v25 (cmpi .eq : (⟨S256x80, .i32⟩ : BufTy).Contents (Elt F) → (⟨S256x80, .i32⟩ : BufTy).Contents (Elt F) → (⟨S256x80, .i1⟩ : BufTy).Contents (Elt F)),
    binary main_v25 main_v3 main_v26 (andi : (⟨S256x80, .i1⟩ : BufTy).Contents (Elt F) → (⟨S256x80, .i1⟩ : BufTy).Contents (Elt F) → (⟨S256x80, .i1⟩ : BufTy).Contents (Elt F)),
    unary main_v26 main_v27 (uitofp .f32 : (⟨S256x80, .i1⟩ : BufTy).Contents (Elt F) → (⟨S256x80, .f32⟩ : BufTy).Contents (Elt F)),
    nullary main_cst_7 (constant S_ .f32 0x00000000#32),
    binary main_v27 main_cst_7 main_v28 ((fun x v => Host.reduceAdd x v reducesTo_S256x80_S_d0_1 h_S_) : (⟨S256x80, .f32⟩ : BufTy).Contents (Elt F) → (⟨S_, .f32⟩ : BufTy).Contents (Elt F) → (⟨S_, .f32⟩ : BufTy).Contents (Elt F)),
    nullary main_cst_8 (constant S_ .f32 0x00000000#32),
    binary main_v4 main_cst_8 main_v29 ((fun x v => Host.reduceAdd x v reducesTo_S256x80_S_d0_1 h_S_) : (⟨S256x80, .f32⟩ : BufTy).Contents (Elt F) → (⟨S_, .f32⟩ : BufTy).Contents (Elt F) → (⟨S_, .f32⟩ : BufTy).Contents (Elt F)),
    binary main_v28 main_v29 main_v30 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is that line of operations. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation reads and writes tensor values only. -/
theorem ops_sub : (ops : List (HloOp τ sig (Elt F))).Forall fun op => op.bufs ⊆ tcRefs τ sig :=
  ⟨reshape_bufs_sub .., binary_bufs_sub .., nullary_bufs_sub .., unary_bufs_sub .., binary_bufs_sub .., unary_bufs_sub .., unary_bufs_sub .., nullary_bufs_sub .., binary_bufs_sub .., unary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., binary_bufs_sub .., unary_bufs_sub .., nullary_bufs_sub .., binary_bufs_sub .., nullary_bufs_sub .., binary_bufs_sub .., binary_bufs_sub ..⟩

/-- The logits `(b, c, k)`. -/
def logits (x : FVec F S256x163840 .f32) (w : FVec F S80x2048 .f32) : FVec F S256x80x80 .f32 :=
  Host.dotGeneral dot_S256x80x2048_S80x2048_S256x80x80_2_1_01_0_n_n none (shapeCast S256x80x2048 x shapeCasts_S256x163840_S256x80x2048) w

/-- The mask of present labels. -/
def mask (lab : IVec S256x80 32) : IVec S256x80 1 :=
  cmpi .sgt lab (broadcastInDim S256x80 ![] bcast_S_S256x80 (constantI S_ 32 0#32))

/-- The mask as floats. -/
def maskF (lab : IVec S256x80 32) : FVec F S256x80 .f32 := uitofp .f32 (mask lab)

/-- The logarithm of the summed exponentials. -/
def lse (L : FVec F S256x80x80 .f32) : FVec F S256x80 .f32 :=
  Host.log (Host.reduceAdd (Host.exp L) (constant S_ .f32 0x00000000#32) reducesTo_S256x80x80_S256x80_d2 h_S_)

/-- One column of diagonal start indices: `0 … 79`, negative ones wrapped (there are none). -/
def diagCol : IVec S80 32 :=
  select (cmpi .slt (iotaInDim S80 32 0) (broadcastInDim S80 ![] bcast_S_S80 (constantI S_ 32 0#32)))
    (addi (iotaInDim S80 32 0) (broadcastInDim S80 ![] bcast_S_S80 (constantI S_ 32 80#32))) (iotaInDim S80 32 0)

/-- The diagonal's start indices: row `c` is `(c, c)`. -/
def diagIdx : IVec S80x2 32 :=
  concatenate S80x2 1 [⟨S80x1, broadcastInDim S80x1 ![0] bcast_S80_S80x1_0 diagCol⟩, ⟨S80x1, broadcastInDim S80x1 ![0] bcast_S80_S80x1_0 diagCol⟩]
    concatenates_S80x1_S80x1_S80x2_d1

/-- The logit of class `c` in row `(b, c)`. -/
def diag (L : FVec F S256x80x80 .f32) : FVec F S256x80 .f32 :=
  Host.gather gather_S256x80x80_S80x2_S256x80_0_12_n_n_12_1_25611 L diagIdx

/-- The number of labels of a sample. -/
def count (lab : IVec S256x80 32) : FVec F S256 .f32 :=
  Host.reduceAdd (maskF (F := F) lab) (constant S_ .f32 0x00000000#32) reducesTo_S256x80_S256_d1 h_S_

/-- A sample's mean cross entropy over its labels, zero for a sample with none. -/
def sampleLoss (L : FVec F S256x80x80 .f32) (lab : IVec S256x80 32) : FVec F S256 .f32 :=
  select (cmpf .ogt (count (F := F) lab) (broadcastInDim S256 ![] bcast_S_S256 (constant S_ .f32 0x00000000#32)))
    (Host.divf (Host.reduceAdd (mulf (subf (lse L) (diag L)) (maskF lab)) (constant S_ .f32 0x00000000#32) reducesTo_S256x80_S256_d1 h_S_)
      (maximumf (count lab) (broadcastInDim S256 ![] bcast_S_S256 (constant S_ .f32 0x3F800000#32))))
    (broadcastInDim S256 ![] bcast_S_S256 (constant S_ .f32 0x00000000#32))

/-- The loss: the samples' mean. -/
def loss (L : FVec F S256x80x80 .f32) (lab : IVec S256x80 32) : FVec F S_ .f32 :=
  Host.divf (Host.reduceAdd (sampleLoss L lab) (constant S_ .f32 0x00000000#32) reducesTo_S256_S_d0 h_S_) (constant S_ .f32 0x43800000#32)

/-- The predicted class. -/
def pred (L : FVec F S256x80x80 .f32) : IVec S256x80 32 := fun j =>
  (Host.argReduce reducer_argmax_f32_i32 L (iotaInDim S256x80x80 32 2) (constant S_ .f32 0xFF800000#32) (constantI S_ 32 0#32)
    reducesTo_S256x80x80_S256x80_d2 h_S_ j).2

/-- Whether a present label is predicted. -/
def hit (L : FVec F S256x80x80 .f32) (lab : IVec S256x80 32) : FVec F S256x80 .f32 :=
  uitofp .f32 (andi (cmpi .eq (pred L) (broadcastInDim S256x80 ![0, 1] bcast_S1x80_S256x80_0_1
    (broadcastInDim S1x80 ![1] bcast_S80_S1x80_1 (iotaInDim S80 32 0)))) (mask lab))

/-- The accuracy. -/
def acc (L : FVec F S256x80x80 .f32) (lab : IVec S256x80 32) : FVec F S_ .f32 :=
  Host.divf (Host.reduceAdd (hit L lab) (constant S_ .f32 0x00000000#32) reducesTo_S256x80_S_d0_1 h_S_)
    (Host.reduceAdd (maskF (F := F) lab) (constant S_ .f32 0x00000000#32) reducesTo_S256x80_S_d0_1 h_S_)

set_option maxRecDepth 8192 in
set_option maxHeartbeats 30800000 in
/-- The run: the two results are the loss and the accuracy of the logits, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = loss (logits (m ((c.tc : Thread nD τ).loc main_arg0)) (m ((c.tc : Thread nD τ).loc main_arg2))) (m ((c.tc : Thread nD τ).loc main_arg1))
      ∧ r.2.mem ((c.tc : Thread nD τ).loc main_v30) = acc (logits (m ((c.tc : Thread nD τ).loc main_arg0)) (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (by simp only [ops, TRef.binary, TRef.nullary, TRef.ternary, TRef.quaternary, TRef.unary, TRef.toBuf, TRef.ofBuf, cast_eq]; after_results_simp <;> rfl),
      (h c main_v30).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.Chain.lean ====
/- What one grid point of the idealized kernel leaves in its cells, over uniform terms: one term per class
   step instead of the sixteen unrolled copies the program prints. -/
module
public import proofs.«01_k».proof.Proof.Gen.KernelIdeal.Frame
public import Idealize.ShloMosaic.Lib.Pipeline.Value
public import Idealize.ShloMosaic.Lib.Pipeline.ValueKit
@[expose] public section
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]

/-- The word the kernel forms for its class `16 · (second coordinate) + j`. -/
def clsWord (i : grid0.Coords) (j : ℕ) : BitVec 32 :=
  Scalar.addi (Scalar.muli (BitVec.ofNat 32 (i 1).val) 16#32) (BitVec.ofNat 32 j)

/-- The lane numbers of a `128 × 80` block. -/
def lanes : IVec S128x80 32 := iota .tc S128x80 32 [1] iota_S128x80_d1_w32

/-- Slice `j` of a staged block of `x`: its columns `2048 · j … 2048 · j + 2047`. -/
def slab (x1 : Vec F S128x32768 .f32) (j : ℕ) : Vec F S128x2048 .f32 :=
  fun y => x1 (ix2 (y 0) (⟨(2048 * j + (y 1).val) % 32768, Nat.mod_lt _ (by decide)⟩ : Fin 32768))

/-- A load of 2048 columns at column `2048 · j` is slice `j`. -/
theorem ld_slab (x1 : Vec F S128x32768 .f32) (o : ℕ) (j : ℕ) (hj : j < 16) (ho : o = 2048 * j)
    (h : ∀ a, (![0, o] : Fin 2 → ℕ) a + (![128, 2048] : Fin 2 → ℕ) a ≤ S128x32768.size a) :
    View.ld x1 (Rect.unit ![0, o] ![128, 2048] h) = slab x1 j := by
  subst ho
  funext y
  refine congrArg x1 (funext fun a => Fin.ext ?_)
  have hy : (y 1).val < 2048 := (y 1).isLt
  fin_cases a
  · show 0 + 1 * (y 0).val = (y 0).val
    omega
  · show 2048 * j + 1 * (y 1).val = (2048 * j + (y 1).val) % 32768
    omega

/-- The loss column after the first `n` classes of a point. -/
def lossC (i : grid0.Coords) (x0 : Vec F S128x80 .i32) (x2 : Vec F S80x2048 .f32) (s : ℕ → Vec F S128x2048 .f32) :
    ℕ → FVec F S128x1 .f32
  | 0 => k0_pay6
  | j + 1 => k0_pay14 (k0_pay4 x0) (k0_pay5 x0) lanes (lossC i x0 x2 s j) (clsWord i j)
      (k0_pay9 x2 (s j)) (k0_pay10 x2 (s j)) (k0_pay11 x2 (s j))

/-- The correct-prediction column after the first `n` classes of a point. -/
def corrC (i : grid0.Coords) (x0 : Vec F S128x80 .i32) (x2 : Vec F S80x2048 .f32) (s : ℕ → Vec F S128x2048 .f32) :
    ℕ → FVec F S128x1 .f32
  | 0 => k0_pay7
  | j + 1 => k0_pay15 (k0_pay4 x0) lanes (corrC i x0 x2 s j) (clsWord i j) (k0_pay9 x2 (s j)) (k0_pay10 x2 (s j))

/-- The label-count column after the first `n` classes of a point. -/
def numC (i : grid0.Coords) (x0 : Vec F S128x80 .i32) : ℕ → FVec F S128x1 .f32
  | 0 => k0_pay8
  | j + 1 => k0_pay16 (k0_pay4 x0) lanes (numC i x0 j) (clsWord i j)

/-- A one-by-one array read anywhere is its only cell. -/
theorem cell11 (x : Vec F S1x1 .f32) (p : S1x1.Idx) : x p = x (ix2 (0 : Fin 1) (0 : Fin 1)) := by
  refine congrArg x (funext fun a => Fin.ext ?_)
  have h0 : (p 0).val < 1 := (p 0).isLt
  have h1 : (p 1).val < 1 := (p 1).isLt
  fin_cases a
  · show (p 0).val = 0
    omega
  · show (p 1).val = 0
    omega

/-- A one-cell array read anywhere is its only cell. -/
theorem cell1 (x : Vec F S1 .f32) (p : S1.Idx) : x p = x (ix1 (0 : Fin 1)) := by
  refine congrArg x (funext fun a => Fin.ext ?_)
  have h0 : (p 0).val < 1 := (p 0).isLt
  fin_cases a
  show (p 0).val = 0
  omega

/-- Case A: what the point leaves in the loss cell. -/
theorem out_A_3 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : cond0_0 i) (hc1 : ¬cond0_1 i)
    (x0 : Vec F S128x80 .i32) (x1 : Vec F S128x32768 .f32) (x2 : Vec F S80x2048 .f32) :
    out0_A_3 c i arg2 harg2 arg3 harg3 arg4 harg4 arg5 harg5 arg6 harg6 arg7 harg7 arg8 harg8 hc0 hc1 x0 x1 x2
      = fun _ => k0_pay1 (lossC i x0 x2 (slab x1) 16) (Scalar.ofBits .f32 0x00000000#32) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  rfl

/-- Case A: what the point leaves in the correct-prediction cell. -/
theorem sout_A_0 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : cond0_0 i) (hc1 : ¬cond0_1 i)
    (x0 : Vec F S128x80 .i32) (x1 : Vec F S128x32768 .f32) (x2 : Vec F S80x2048 .f32) :
    sout0_A_0 c i arg2 harg2 arg3 harg3 arg4 harg4 arg5 harg5 arg6 harg6 arg7 harg7 arg8 harg8 hc0 hc1 x0 x1 x2
      = fun _ => k0_pay1 (corrC i x0 x2 (slab x1) 16) (Scalar.ofBits .f32 0x00000000#32) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  rfl

/-- Case A: what the point leaves in the label-count cell. -/
theorem sout_A_1 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : cond0_0 i) (hc1 : ¬cond0_1 i)
    (x0 : Vec F S128x80 .i32) (x1 : Vec F S128x32768 .f32) (x2 : Vec F S80x2048 .f32) :
    sout0_A_1 c i arg2 harg2 arg3 harg3 arg4 harg4 arg5 harg5 arg6 harg6 arg7 harg7 arg8 harg8 hc0 hc1 x0 x1 x2
      = fun _ => k0_pay2 (numC i x0 16) (Scalar.ofBits .f32 0x00000000#32) := by
  frame_out
  funext y
  rfl

/-- Case B: what the point leaves in the loss cell. -/
theorem out_B_3 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : ¬cond0_1 i)
    (x0 : Vec F S128x80 .i32) (x1 : Vec F S128x32768 .f32) (x2 : Vec F S80x2048 .f32) (xo3 : Vec F S1x1 .f32) (xs0 : Vec F S1 .f32) (xs1 : Vec F S1 .f32) :
    out0_B_3 c i arg2 harg2 arg3 harg3 arg4 harg4 arg5 harg5 arg6 harg6 arg7 harg7 arg8 harg8 hc0 hc1 x0 x1 x2 xo3 xs0 xs1
      = fun _ => k0_pay1 (lossC i x0 x2 (slab x1) 16) (xo3 (ix2 (0 : Fin 1) (0 : Fin 1))) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  obtain ⟨a0, e0⟩ : ∃ a0, ∀ p, xo3 p = a0 := ⟨_, cell11 xo3⟩
  obtain rfl : xo3 = fun _ => a0 := funext e0
  rfl

/-- Case B: what the point leaves in the correct-prediction cell. -/
theorem sout_B_0 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : ¬cond0_1 i)
    (x0 : Vec F S128x80 .i32) (x1 : Vec F S128x32768 .f32) (x2 : Vec F S80x2048 .f32) (xo3 : Vec F S1x1 .f32) (xs0 : Vec F S1 .f32) (xs1 : Vec F S1 .f32) :
    sout0_B_0 c i arg2 harg2 arg3 harg3 arg4 harg4 arg5 harg5 arg6 harg6 arg7 harg7 arg8 harg8 hc0 hc1 x0 x1 x2 xo3 xs0 xs1
      = fun _ => k0_pay1 (corrC i x0 x2 (slab x1) 16) (xs0 (ix1 (0 : Fin 1))) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  obtain ⟨a0, e0⟩ : ∃ a0, ∀ p, xs0 p = a0 := ⟨_, cell1 xs0⟩
  obtain rfl : xs0 = fun _ => a0 := funext e0
  rfl

/-- Case B: what the point leaves in the label-count cell. -/
theorem sout_B_1 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : ¬cond0_1 i)
    (x0 : Vec F S128x80 .i32) (x1 : Vec F S128x32768 .f32) (x2 : Vec F S80x2048 .f32) (xo3 : Vec F S1x1 .f32) (xs0 : Vec F S1 .f32) (xs1 : Vec F S1 .f32) :
    sout0_B_1 c i arg2 harg2 arg3 harg3 arg4 harg4 arg5 harg5 arg6 harg6 arg7 harg7 arg8 harg8 hc0 hc1 x0 x1 x2 xo3 xs0 xs1
      = fun _ => k0_pay2 (numC i x0 16) (xs1 (ix1 (0 : Fin 1))) := by
  frame_out
  funext y
  obtain ⟨a0, e0⟩ : ∃ a0, ∀ p, xs1 p = a0 := ⟨_, cell1 xs1⟩
  obtain rfl : xs1 = fun _ => a0 := funext e0
  rfl

/-- Case C: what the point leaves in the loss cell. -/
theorem out_C_3 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : cond0_1 i)
    (x0 : Vec F S128x80 .i32) (x1 : Vec F S128x32768 .f32) (x2 : Vec F S80x2048 .f32) (xo3 : Vec F S1x1 .f32) (xs0 : Vec F S1 .f32) (xs1 : Vec F S1 .f32) :
    out0_C_3 c i arg2 harg2 arg3 harg3 arg4 harg4 arg5 harg5 arg6 harg6 arg7 harg7 arg8 harg8 hc0 hc1 x0 x1 x2 xo3 xs0 xs1
      = fun _ => k0_pay1 (lossC i x0 x2 (slab x1) 16) (xo3 (ix2 (0 : Fin 1) (0 : Fin 1))) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  obtain ⟨a0, e0⟩ : ∃ a0, ∀ p, xo3 p = a0 := ⟨_, cell11 xo3⟩
  obtain rfl : xo3 = fun _ => a0 := funext e0
  rfl

/-- Case C: what the point leaves in the correct-prediction cell. -/
theorem sout_C_0 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : cond0_1 i)
    (x0 : Vec F S128x80 .i32) (x1 : Vec F S128x32768 .f32) (x2 : Vec F S80x2048 .f32) (xo3 : Vec F S1x1 .f32) (xs0 : Vec F S1 .f32) (xs1 : Vec F S1 .f32) :
    sout0_C_0 c i arg2 harg2 arg3 harg3 arg4 harg4 arg5 harg5 arg6 harg6 arg7 harg7 arg8 harg8 hc0 hc1 x0 x1 x2 xo3 xs0 xs1
      = fun _ => k0_pay1 (corrC i x0 x2 (slab x1) 16) (xs0 (ix1 (0 : Fin 1))) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  obtain ⟨a0, e0⟩ : ∃ a0, ∀ p, xs0 p = a0 := ⟨_, cell1 xs0⟩
  obtain rfl : xs0 = fun _ => a0 := funext e0
  rfl

/-- Case C: what the point leaves in the label-count cell. -/
theorem sout_C_1 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : cond0_1 i)
    (x0 : Vec F S128x80 .i32) (x1 : Vec F S128x32768 .f32) (x2 : Vec F S80x2048 .f32) (xo3 : Vec F S1x1 .f32) (xs0 : Vec F S1 .f32) (xs1 : Vec F S1 .f32) :
    sout0_C_1 c i arg2 harg2 arg3 harg3 arg4 harg4 arg5 harg5 arg6 harg6 arg7 harg7 arg8 harg8 hc0 hc1 x0 x1 x2 xo3 xs0 xs1
      = fun _ => k0_pay2 (numC i x0 16) (xs1 (ix1 (0 : Fin 1))) := by
  frame_out
  funext y
  obtain ⟨a0, e0⟩ : ∃ a0, ∀ p, xs1 p = a0 := ⟨_, cell1 xs1⟩
  obtain rfl : xs1 = fun _ => a0 := funext e0
  rfl

/-- Case C: what the point leaves in the accuracy cell. -/
theorem out_C_4 (c : Dev nD) (i : grid0.Coords) (arg2 : Memref sig .tc .vmem S128x80 .i32) (harg2 : arg2.IsWhole) (arg3 : Memref sig .tc .vmem S128x32768 .f32) (harg3 : arg3.IsWhole) (arg4 : Memref sig .tc .vmem S80x2048 .f32) (harg4 : arg4.IsWhole) (arg5 : Memref sig .tc .smem S1x1 .f32) (harg5 : arg5.IsWhole) (arg6 : Memref sig .tc .smem S1x1 .f32) (harg6 : arg6.IsWhole) (arg7 : Memref sig .tc .smem S1 .f32) (harg7 : arg7.IsWhole) (arg8 : Memref sig .tc .smem S1 .f32) (harg8 : arg8.IsWhole) (hc0 : ¬cond0_0 i) (hc1 : cond0_1 i)
    (x0 : Vec F S128x80 .i32) (x1 : Vec F S128x32768 .f32) (x2 : Vec F S80x2048 .f32) (xo3 : Vec F S1x1 .f32) (xs0 : Vec F S1 .f32) (xs1 : Vec F S1 .f32) :
    out0_C_4 c i arg2 harg2 arg3 harg3 arg4 harg4 arg5 harg5 arg6 harg6 arg7 harg7 arg8 harg8 hc0 hc1 x0 x1 x2 xo3 xs0 xs1
      = fun _ => k0_pay3 (k0_pay1 (corrC i x0 x2 (slab x1) 16) (xs0 (ix1 (0 : Fin 1)))) (k0_pay2 (numC i x0 16) (xs1 (ix1 (0 : Fin 1)))) := by
  frame_out
  rw [
    ld_slab x1 0 0 (by decide) rfl,
    ld_slab x1 2048 1 (by decide) rfl,
    ld_slab x1 4096 2 (by decide) rfl,
    ld_slab x1 6144 3 (by decide) rfl,
    ld_slab x1 8192 4 (by decide) rfl,
    ld_slab x1 10240 5 (by decide) rfl,
    ld_slab x1 12288 6 (by decide) rfl,
    ld_slab x1 14336 7 (by decide) rfl,
    ld_slab x1 16384 8 (by decide) rfl,
    ld_slab x1 18432 9 (by decide) rfl,
    ld_slab x1 20480 10 (by decide) rfl,
    ld_slab x1 22528 11 (by decide) rfl,
    ld_slab x1 24576 12 (by decide) rfl,
    ld_slab x1 26624 13 (by decide) rfl,
    ld_slab x1 28672 14 (by decide) rfl,
    ld_slab x1 30720 15 (by decide) rfl]
  funext y
  generalize slab x1 = s
  obtain ⟨a0, e0⟩ : ∃ a0, ∀ p, xs0 p = a0 := ⟨_, cell1 xs0⟩
  obtain ⟨a1, e1⟩ : ∃ a1, ∀ p, xs1 p = a1 := ⟨_, cell1 xs1⟩
  obtain rfl : xs0 = fun _ => a0 := funext e0
  obtain rfl : xs1 = fun _ => a1 := funext e1
  rfl

end Cert.KernelIdeal.Hand

end
-- ==== Proof.Point.lean ====
/- The values of one grid point at the extended reals, read at an index. -/
module
public import proofs.«01_k».proof.Proof.Chain
public import Idealize.ShloMosaic.Lib.Pointwise
public import Idealize.ShloMosaic.PureOps.Ideal.Laws
@[expose] public section
set_option maxRecDepth 16384
noncomputable section
namespace Cert.KernelIdeal.Hand
open Cert.KernelIdeal Cert.KernelIdeal.Gen Idealize.ShloMosaic Idealize.ShloMosaic.TcCoe Idealize.SL.Sem

/-- A cell gains the sum of a column. -/
theorem pay1_ap (v : FVec Ideal S128x1 .f32) (e : EReal) :
    k0_pay1 (F := Ideal) v e = e + ∑ r : Fin 128, (v (ix2 r 0) : EReal) := by
  unfold k0_pay1
  pointwise
  simp only [Fin.sum_univ_one]

/-- The count cell gains the sum of a column. -/
theorem pay2_ap (v : FVec Ideal S128x1 .f32) (e : EReal) :
    k0_pay2 (F := Ideal) v e = e + ∑ r : Fin 128, (v (ix2 r 0) : EReal) := by
  unfold k0_pay2
  pointwise
  simp only [Fin.sum_univ_one]

/-- The mask as a number, the bit read unsigned. -/
theorem pay4_ap (x0 : Vec Ideal S128x80 .i32) (r : Fin 128) (k : Fin 80) :
    k0_pay4 (F := Ideal) x0 (ix2 r k) = FloatOps.uitofp (F := Ideal) .f32 (IntOp.cmpi .sgt (x0 (ix2 r k)) 0#32) := by
  pointwise [k0_pay4]
  generalize IntOp.cmpi CmpIPredicate.sgt (x0 (ix2 r k)) 0#32 = p
  have h : ((BitVec.setWidth 32 p).toInt : ℤ) = (p.toNat : ℤ) := by
    revert p; decide
  show ((((BitVec.setWidth 32 p).toInt : ℤ) : ℝ) : EReal) = ((p.toNat : ℝ) : EReal)
  rw [h]
  norm_cast

/-- The weight of a row: the reciprocal of its label count (at least one) times 256. -/
theorem pay5_ap (x0 : Vec Ideal S128x80 .i32) (r : Fin 128) :
    k0_pay5 (F := Ideal) x0 (ix2 r 0)
      = Ideal.div 1 (max (∑ k : Fin 80, (k0_pay4 (F := Ideal) x0 (ix2 r k) : EReal)) 1 * Ideal.ofBits .f32 0x43800000#32) := by
  pointwise [k0_pay5]

/-- A logit of the block. -/
theorem pay9_ap (w : Vec Ideal S80x2048 .f32) (s : Vec Ideal S128x2048 .f32) (r : Fin 128) (k : Fin 80) :
    k0_pay9 (F := Ideal) w s (ix2 r k) = ∑ q : Fin 2048, (s (ix2 r q) : EReal) * w (ix2 k q) := by
  pointwise [k0_pay9]

/-- A row's greatest logit. -/
theorem pay10_ap (w : Vec Ideal S80x2048 .f32) (s : Vec Ideal S128x2048 .f32) (r : Fin 128)  :
    k0_pay10 (F := Ideal) w s (ix2 r 0)
      = Finset.univ.fold max (Ideal.ofBits .f32 0xFF800000#32) (fun k : Fin 80 => (k0_pay9 (F := Ideal) w s (ix2 r k) : EReal)) := by
  pointwise [k0_pay10]

/-- The logarithm of a row's summed shifted exponentials. -/
theorem pay11_ap (w : Vec Ideal S80x2048 .f32) (s : Vec Ideal S128x2048 .f32) (r : Fin 128)  :
    k0_pay11 (F := Ideal) w s (ix2 r 0)
      = Ideal.log (∑ k : Fin 80, Ideal.exp ((k0_pay9 (F := Ideal) w s (ix2 r k) : EReal) - k0_pay10 (F := Ideal) w s (ix2 r 0))) := by
  pointwise [k0_pay11]

/-- A sum over the lanes that keeps lane `n` only is the value of lane `n`. -/
theorem pick (n : Fin 80) (v : Fin 80 → EReal) :
    ∑ x : Fin 80, Scalar.select (IntOp.cmpi .eq (BitVec.ofNat 32 x.val) (BitVec.ofNat 32 n.val)) (v x) 0 = v n := by
  have hi : ∀ a b : Fin 80, IntOp.cmpi .eq (BitVec.ofNat 32 a.val) (BitVec.ofNat 32 b.val) = BitVec.ofBool (decide (a = b)) := by
    decide +kernel
  rw [Finset.sum_eq_single n]
  · rw [hi]; simp [Scalar.select]
  · intro x _ hx
    rw [hi]; simp [Scalar.select, hx]
  · intro h; exact absurd (Finset.mem_univ n) h

/-- The mask at the step's class. -/
theorem pay13_ap (v10 : FVec Ideal S128x80 .f32) (n : Fin 80) (r : Fin 128)  :
    k0_pay13 (F := Ideal) v10 lanes (BitVec.ofNat 32 n.val) (ix2 r 0) = v10 (ix2 r n) := by
  pointwise [k0_pay13, k0_pay12, lanes]
  exact pick n fun x => v10 (ix2 r x)

/-- One step of the loss column. -/
theorem pay14_ap (v10 : FVec Ideal S128x80 .f32) (v18 v20 v28 v34 : FVec Ideal S128x1 .f32) (n : Fin 80) (v26 : FVec Ideal S128x80 .f32) (r : Fin 128) :
    k0_pay14 (F := Ideal) v10 v18 lanes v20 (BitVec.ofNat 32 n.val) v26 v28 v34 (ix2 r 0)
      = (v20 (ix2 r 0) : EReal) + ((v34 (ix2 r 0) : EReal) + v28 (ix2 r 0) - v26 (ix2 r n)) * v10 (ix2 r n) * v18 (ix2 r 0) := by
  have e := pick n fun x => v26 (ix2 r x)
  have e' := pay13_ap v10 n r
  unfold lanes at e' ⊢
  pointwise [k0_pay14, k0_pay12]
  rw [e, e']

/-- The first lane whose logit is the greatest, by the least lane number over the lanes that attain it. -/
theorem first_max (l : Fin 80 → EReal) (k : Fin 80) (hk : ∀ k', l k' < l k ∨ (l k' = l k ∧ k.val ≤ k'.val)) :
    Finset.univ.fold IntOp.minsi (2147483647#32) (fun x : Fin 80 => if l x = l k then BitVec.ofNat 32 x.val else 80#32) = BitVec.ofNat 32 k.val := by
  have hi : ∀ n : Fin 80, (BitVec.ofNat 32 n.val).toInt = (n.val : ℤ) := by decide +kernel
  have hr : ∀ {x y z : BitVec 32}, x.toInt ≤ (IntOp.minsi y z).toInt ↔ x.toInt ≤ y.toInt ∧ x.toInt ≤ z.toInt := by
    intro x y z
    simp only [IntOp.minsi, BitVec.slt, decide_eq_true_eq]
    split <;> constructor <;> intro h <;> (try constructor) <;> omega
  have H := fun b => Finset.fold_op_rel_iff_and (op := IntOp.minsi (w := 32)) (r := fun x y => x.toInt ≤ y.toInt) hr
    (f := fun x : Fin 80 => if l x = l k then BitVec.ofNat 32 x.val else 80#32) (b := 2147483647#32) (s := Finset.univ) (c := b)
  generalize Finset.univ.fold IntOp.minsi (2147483647#32) (fun x : Fin 80 => if l x = l k then BitVec.ofNat 32 x.val else 80#32) = p at H ⊢
  refine BitVec.eq_of_toInt_eq (le_antisymm ?_ ?_)
  · have := ((H p).1 (le_refl _)).2 k (Finset.mem_univ _)
    simpa using this
  · refine (H _).2 ⟨?_, fun x _ => ?_⟩
    · rw [hi]; have := k.isLt; show (k.val : ℤ) ≤ 2147483647; omega
    · show (BitVec.ofNat 32 k.val).toInt ≤ (if l x = l k then BitVec.ofNat 32 x.val else 80#32).toInt
      split
      · next h =>
        rw [hi, hi]
        rcases hk x with h' | ⟨_, h'⟩
        · exact absurd h h'.ne
        · exact_mod_cast h'
      · rw [hi]; have := k.isLt; show (k.val : ℤ) ≤ 80; omega

/-- One step of the correct-prediction column, `k` being the first lane of the row that attains its greatest logit. -/
theorem pay15_ap (v10 : FVec Ideal S128x80 .f32) (v21 v28 : FVec Ideal S128x1 .f32) (n : Fin 80) (v26 : FVec Ideal S128x80 .f32) (r : Fin 128)
    (k : Fin 80) (hm : (v28 (ix2 r 0) : EReal) = v26 (ix2 r k))
    (hk : ∀ k' : Fin 80, (v26 (ix2 r k') : EReal) < v26 (ix2 r k) ∨ ((v26 (ix2 r k') : EReal) = v26 (ix2 r k) ∧ k.val ≤ k'.val)) :
    k0_pay15 (F := Ideal) v10 lanes v21 (BitVec.ofNat 32 n.val) v26 v28 (ix2 r 0)
      = (v21 (ix2 r 0) : EReal) + Scalar.select (IntOp.cmpi .eq (BitVec.ofNat 32 k.val) (BitVec.ofNat 32 n.val)) (v10 (ix2 r n) : EReal) 0 := by
  have e' := pay13_ap v10 n r
  have e := first_max (fun x => v26 (ix2 r x)) k hk
  unfold lanes at e' ⊢
  pointwise [k0_pay15]
  rw [e', hm]
  rw [e]

/-- One step of the count column. -/
theorem pay16_ap (v10 : FVec Ideal S128x80 .f32) (v22 : FVec Ideal S128x1 .f32) (n : Fin 80) (r : Fin 128) :
    k0_pay16 (F := Ideal) v10 lanes v22 (BitVec.ofNat 32 n.val) (ix2 r 0) = (v22 (ix2 r 0) : EReal) + v10 (ix2 r n) := by
  have e' := pay13_ap v10 n r
  unfold lanes at e' ⊢
  pointwise [k0_pay16]
  rw [e']

end Cert.KernelIdeal.Hand
end
-- ==== Proof.Cells.lean ====
/- Real arithmetic behind the loss and the accuracy, and what the kernel's columns hold in it. -/
module
public import proofs.«01_k».proof.Proof.Point
@[expose] public section
set_option maxRecDepth 16384
noncomputable section
namespace Cert.KernelIdeal.Hand
open Cert.KernelIdeal Cert.KernelIdeal.Gen Idealize.ShloMosaic Idealize.ShloMosaic.TcCoe Idealize.SL.Sem

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logarithm of a row's summed exponentials. -/
def lseR (l : Fin 80 → ℝ) : ℝ := Real.log (∑ k, Real.exp (l k))

/-- A sum of exponentials over the classes is positive. -/
theorem exp_sum_pos (l : Fin 80 → ℝ) : 0 < ∑ k, Real.exp (l k) :=
  Finset.sum_pos (fun k _ => Real.exp_pos _) ⟨0, Finset.mem_univ _⟩

/-- The plain form of the row's log-sum-exp. -/
theorem lse_plain (l : Fin 80 → ℝ) : Ideal.log (∑ k, Ideal.exp ((l k : ℝ) : EReal)) = ((lseR l : ℝ) : EReal) := by
  simp only [Ideal.exp_coe]
  rw [coe_sum, Ideal.log_coe, if_neg (not_le.mpr (exp_sum_pos l))]
  rfl

/-- The shifted form of the row's log-sum-exp, whatever real number it is shifted by. -/
theorem lse_shift (l : Fin 80 → ℝ) (M : ℝ) :
    Ideal.log (∑ k, Ideal.exp (((l k : ℝ) : EReal) - ((M : ℝ) : EReal))) + ((M : ℝ) : EReal) = ((lseR l : ℝ) : EReal) := by
  simp only [← EReal.coe_sub]
  rw [lse_plain (fun k => l k - M), ← EReal.coe_add]
  congr 1
  unfold lseR
  simp only [Real.exp_sub]
  rw [← Finset.sum_div, Real.log_div (exp_sum_pos l).ne' (Real.exp_pos M).ne', Real.log_exp]
  ring

/-- The greatest of a row, from −∞. -/
theorem fold_max_eq (l : Fin 80 → EReal) (k : Fin 80) (hk : ∀ k', l k' ≤ l k) :
    Finset.univ.fold max (Ideal.ofBits .f32 0xFF800000#32) l = l k := by
  have hb : Ideal.ofBits .f32 0xFF800000#32 = ⊥ := by simp [Ideal.ofBits, Ideal.ieee]
  rw [hb]
  refine le_antisymm ?_ ?_
  · exact (Finset.fold_max_le (l k)).2 ⟨bot_le, fun x _ => hk x⟩
  · exact (Finset.le_fold_max (l k)).2 (.inr ⟨k, Finset.mem_univ _, le_refl _⟩)

/-- A row has a first lane that attains its greatest value. -/
theorem exists_first (l : Fin 80 → ℝ) : ∃ k : Fin 80, ∀ k', l k' < l k ∨ (l k' = l k ∧ k.val ≤ k'.val) := by
  obtain ⟨k0, -, h0⟩ := Finset.exists_max_image (Finset.univ : Finset (Fin 80)) l ⟨0, Finset.mem_univ _⟩
  obtain ⟨k, hk, h1⟩ := Finset.exists_min_image (Finset.univ.filter fun k => l k = l k0) (fun k => k.val) ⟨k0, by simp⟩
  have hk' : l k = l k0 := (Finset.mem_filter.1 hk).2
  refine ⟨k, fun k' => ?_⟩
  rcases lt_or_eq_of_le (h0 k' (Finset.mem_univ _)) with h | h
  · exact .inl (hk' ▸ h)
  · exact .inr ⟨h.trans hk'.symm, h1 k' (Finset.mem_filter.2 ⟨Finset.mem_univ _, h⟩)⟩

/-- A row's weight in the mean. -/
def wgt (mk : Fin 80 → ℝ) : ℝ := 1 / (max (∑ k, mk k) 1 * 256)

/-- The pattern of 256. -/
theorem c256 : Ideal.ofBits .f32 0x43800000#32 = ((256 : ℝ) : EReal) := by
  simp [Ideal.ofBits, Ideal.ieee, -EReal.coe_mul]; norm_num

/-- The larger of a real number and one, taken in the extended reals, is the real one. -/
theorem coe_max_one (a : ℝ) : max ((a : ℝ) : EReal) 1 = ((max a 1 : ℝ) : EReal) := by
  rw [← EReal.coe_one]; exact (EReal.coe_strictMono.monotone.map_max).symm

/-- The larger of a number and one is positive. -/
theorem max_one_pos (a : ℝ) : 0 < max a 1 := lt_of_lt_of_le one_pos (le_max_right _ _)

variable (i : grid0.Coords) (x0 : Vec Ideal S128x80 .i32) (x2 : Vec Ideal S80x2048 .f32) (s : ℕ → Vec Ideal S128x2048 .f32) (r : Fin 128)
variable (mk : Fin 80 → ℝ) (l : ℕ → Fin 80 → ℝ) (cls : ℕ → Fin 80)
variable (hm : ∀ k, (k0_pay4 (F := Ideal) x0 (ix2 r k) : EReal) = ((mk k : ℝ) : EReal))
variable (hl : ∀ j, j < 16 → ∀ k, (k0_pay9 (F := Ideal) x2 (s j) (ix2 r k) : EReal) = ((l j k : ℝ) : EReal))
variable (hcls : ∀ j, j < 16 → (cls j).val = 16 * (i 1).val + j)

include hm in
/-- The weight the kernel computes for a row is `wgt` of the row's mask. -/
theorem wgt_ap : (k0_pay5 (F := Ideal) x0 (ix2 r 0) : EReal) = ((wgt mk : ℝ) : EReal) := by
  rw [pay5_ap]
  simp only [hm]
  rw [coe_sum, coe_max_one, c256, ← EReal.coe_mul, Ideal.div_coe (mul_pos (max_one_pos _) (by norm_num)).ne', one_mul]
  rfl

include hcls in
/-- The word of a step's class is the class. -/
theorem clsWord_eq (j : ℕ) (hj : j < 16) : clsWord i j = BitVec.ofNat 32 (cls j).val := by
  have h1 : (i 1).val < 5 := (i 1).isLt
  rw [hcls j hj]
  unfold clsWord
  generalize (i 1).val = a at h1
  revert j a
  decide +kernel

include hm hl hcls in
/-- The loss column after `N` classes. -/
theorem lossC_ap (N : ℕ) (hN : N ≤ 16) :
    (lossC (F := Ideal) i x0 x2 s N (ix2 r 0) : EReal)
      = ((∑ j ∈ Finset.range N, (lseR (l j) - l j (cls j)) * mk (cls j) * wgt mk : ℝ) : EReal) := by
  induction N with
  | zero =>
    show Ideal.ofBits .f32 0x00000000#32 = _
    rw [Ideal.ofBits_zero_f32]; simp
  | succ j ih =>
    have hj : j < 16 := hN
    have e : lossC (F := Ideal) i x0 x2 s (j + 1) = k0_pay14 (k0_pay4 x0) (k0_pay5 x0) lanes (lossC i x0 x2 s j) (clsWord i j) (k0_pay9 x2 (s j)) (k0_pay10 x2 (s j)) (k0_pay11 x2 (s j)) := rfl
    obtain ⟨k, hk⟩ := exists_first (l j)
    have hmax : (k0_pay10 (F := Ideal) x2 (s j) (ix2 r 0) : EReal) = ((l j k : ℝ) : EReal) := by
      rw [pay10_ap]
      simp only [hl j hj]
      refine fold_max_eq (fun k => ((l j k : ℝ) : EReal)) k fun k' => ?_
      exact EReal.coe_le_coe_iff.2 ((hk k').elim le_of_lt fun h => h.1.le)
    have hlse : (k0_pay11 (F := Ideal) x2 (s j) (ix2 r 0) : EReal) + k0_pay10 (F := Ideal) x2 (s j) (ix2 r 0) = ((lseR (l j) : ℝ) : EReal) := by
      rw [pay11_ap, hmax]
      simp only [hl j hj]
      exact lse_shift (l j) (l j k)
    rw [e, clsWord_eq i cls hcls j hj, pay14_ap, ih (by omega), hlse, hl j hj, hm, wgt_ap x0 r mk hm, Finset.sum_range_succ]
    push_cast
    rfl

include hm hl hcls in
/-- The correct-prediction column after `N` classes, `p j` being the first lane attaining the greatest logit of class row `j`. -/
theorem corrC_ap (p : ℕ → Fin 80) (hp : ∀ j, j < 16 → ∀ k', l j k' < l j (p j) ∨ (l j k' = l j (p j) ∧ (p j).val ≤ k'.val)) (N : ℕ) (hN : N ≤ 16) :
    (corrC (F := Ideal) i x0 x2 s N (ix2 r 0) : EReal)
      = ((∑ j ∈ Finset.range N, (if p j = cls j then mk (cls j) else 0) : ℝ) : EReal) := by
  induction N with
  | zero =>
    show Ideal.ofBits .f32 0x00000000#32 = _
    rw [Ideal.ofBits_zero_f32]; simp
  | succ j ih =>
    have hj : j < 16 := hN
    have e : corrC (F := Ideal) i x0 x2 s (j + 1) = k0_pay15 (k0_pay4 x0) lanes (corrC i x0 x2 s j) (clsWord i j) (k0_pay9 x2 (s j)) (k0_pay10 x2 (s j)) := rfl
    have hmax : (k0_pay10 (F := Ideal) x2 (s j) (ix2 r 0) : EReal) = k0_pay9 (F := Ideal) x2 (s j) (ix2 r (p j)) := by
      rw [pay10_ap, hl j hj]
      simp only [hl j hj]
      refine fold_max_eq (fun k => ((l j k : ℝ) : EReal)) (p j) fun k' => ?_
      exact EReal.coe_le_coe_iff.2 ((hp j hj k').elim le_of_lt fun h => h.1.le)
    rw [e, clsWord_eq i cls hcls j hj, pay15_ap _ _ _ _ _ r (p j) hmax ?_, ih (by omega), hm, Finset.sum_range_succ]
    · have hi : ∀ a b : Fin 80, IntOp.cmpi .eq (BitVec.ofNat 32 a.val) (BitVec.ofNat 32 b.val) = BitVec.ofBool (decide (a = b)) := by
        decide +kernel
      rw [hi]
      by_cases h : p j = cls j
      · simp [h, Scalar.select]
      · simp [h, Scalar.select]
    · intro k'
      rw [hl j hj, hl j hj, EReal.coe_lt_coe_iff, EReal.coe_eq_coe_iff]
      exact hp j hj k'

include hm hcls in
/-- The count column after `N` classes. -/
theorem numC_ap (N : ℕ) (hN : N ≤ 16) :
    (numC (F := Ideal) i x0 N (ix2 r 0) : EReal) = ((∑ j ∈ Finset.range N, mk (cls j) : ℝ) : EReal) := by
  induction N with
  | zero =>
    show Ideal.ofBits .f32 0x00000000#32 = _
    rw [Ideal.ofBits_zero_f32]; simp
  | succ j ih =>
    have hj : j < 16 := hN
    have e : numC (F := Ideal) i x0 (j + 1) = k0_pay16 (k0_pay4 x0) lanes (numC i x0 j) (clsWord i j) := rfl
    rw [e, clsWord_eq i cls hcls j hj, pay16_ap, ih (by omega), hm, Finset.sum_range_succ]
    push_cast
    rfl

/-- A double sum over 256 samples and 80 classes, taken grid point by grid point. -/
theorem sum_points (f : ℕ → ℕ → ℝ) :
    ∑ t ∈ Finset.range 10, ∑ r ∈ Finset.range 128, ∑ j ∈ Finset.range 16, f (128 * (t / 5) + r) (16 * (t % 5) + j)
      = ∑ b ∈ Finset.range 256, ∑ c ∈ Finset.range 80, f b c := by
  have h80 : ∀ g : ℕ → ℝ, ∑ c ∈ Finset.range 80, g c = ∑ u ∈ Finset.range 5, ∑ j ∈ Finset.range 16, g (16 * u + j) := by
    intro g
    rw [show (80 : ℕ) = 16 + 16 + 16 + 16 + 16 from rfl]
    simp only [Finset.sum_range_add, Finset.sum_range_succ _ 4, Finset.sum_range_succ _ 3, Finset.sum_range_succ _ 2, Finset.sum_range_succ _ 1,
      Finset.sum_range_succ _ 0, Finset.sum_range_zero, Nat.mul_zero, Nat.mul_one, Nat.zero_add, zero_add]
  have h256 : ∀ g : ℕ → ℝ, ∑ b ∈ Finset.range 256, g b = ∑ u ∈ Finset.range 2, ∑ r ∈ Finset.range 128, g (128 * u + r) := by
    intro g
    rw [show (256 : ℕ) = 128 + 128 from rfl]
    simp only [Finset.sum_range_add, Finset.sum_range_succ _ 1,
      Finset.sum_range_succ _ 0, Finset.sum_range_zero, Nat.mul_zero, Nat.mul_one, Nat.zero_add, zero_add]
  have h10 : ∀ g : ℕ → ℝ, ∑ t ∈ Finset.range 10, g t = ∑ v ∈ Finset.range 2, ∑ u ∈ Finset.range 5, g (5 * v + u) := by
    intro g
    rw [show (10 : ℕ) = 5 + 5 from rfl]
    simp only [Finset.sum_range_add, Finset.sum_range_succ _ 1,
      Finset.sum_range_succ _ 0, Finset.sum_range_zero, Nat.mul_zero, Nat.mul_one, Nat.zero_add, zero_add]
  rw [h256, h10]
  refine Finset.sum_congr rfl fun v _ => ?_
  rw [Finset.sum_comm' (t' := Finset.range 128) (s' := fun _ => Finset.range 5) (by simp [and_comm])]
  refine Finset.sum_congr rfl fun r _ => ?_
  rw [h80]
  refine Finset.sum_congr rfl fun u hu => ?_
  have hu' := Finset.mem_range.1 hu
  rw [show (5 * v + u) / 5 = v by omega, show (5 * v + u) % 5 = u by omega]

end Cert.KernelIdeal.Hand
end
-- ==== Proof.RunK.lean ====
/- The idealized kernel's run, read at its two results: the loss cell and the quotient of the two counts after the last
   grid point, each an accumulation over the points. -/
module
public import proofs.«01_k».proof.Proof.Chain
@[expose] public section
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ) (c : Dev nD)

/-- Grid point number `n`. -/
def pt (n : ℕ) : Fin cfg0.N := ⟨n % 10, lt_of_lt_of_eq (Nat.mod_lt _ (by decide)) (show 10 = cfg0.N from N_0.symm)⟩

/-- A point is the point of its number. -/
theorem pt_val (t : Fin cfg0.N) : pt t.val = t :=
  Fin.ext (Nat.mod_eq_of_lt (lt_of_lt_of_eq t.isLt (show cfg0.N = 10 from N_0)))

/-- The loss column a point adds. -/
def colL (t : Fin cfg0.N) : FVec F S128x1 .f32 :=
  lossC (grid0.coords t) (iblk m c 0 t) (iblk m c 2 t) (slab (iblk m c 1 t)) 16

/-- The correct-prediction column a point adds. -/
def colC (t : Fin cfg0.N) : FVec F S128x1 .f32 :=
  corrC (grid0.coords t) (iblk m c 0 t) (iblk m c 2 t) (slab (iblk m c 1 t)) 16

/-- The label-count column a point adds. -/
def colN (t : Fin cfg0.N) : FVec F S128x1 .f32 := numC (grid0.coords t) (iblk m c 0 t) 16

/-- The loss cell after point `n`. -/
def cellL : ℕ → F .f32
  | 0 => k0_pay1 (colL m c (pt 0)) (Scalar.ofBits .f32 0x00000000#32)
  | n + 1 => k0_pay1 (colL m c (pt (n + 1))) (cellL n)

/-- The correct-prediction cell after point `n`. -/
def cellC : ℕ → F .f32
  | 0 => k0_pay1 (colC m c (pt 0)) (Scalar.ofBits .f32 0x00000000#32)
  | n + 1 => k0_pay1 (colC m c (pt (n + 1))) (cellC n)

/-- The label-count cell after point `n`. -/
def cellN : ℕ → F .f32
  | 0 => k0_pay2 (colN m c (pt 0)) (Scalar.ofBits .f32 0x00000000#32)
  | n + 1 => k0_pay2 (colN m c (pt (n + 1))) (cellN n)

/-- What the cells hold after each point. -/
theorem outs_eq : ∀ (n : ℕ) (hn : n < cfg0.N),
    (outsAt0 m c n hn).1 = (fun _ => cellL m c n) ∧ (outsAt0 m c n hn).2.2.1 = (fun _ => cellC m c n)
      ∧ (outsAt0 m c n hn).2.2.2 = (fun _ => cellN m c n)
  | 0, hn => by
    have e := outsAt0_A m c ⟨0, hn⟩ rfl (by show ¬ 0 % 10 = 9; decide)
    have ep : (⟨0, hn⟩ : Fin cfg0.N) = pt 0 := rfl
    rw [out_A_3, sout_A_0, sout_A_1] at e
    refine ⟨(congrArg (·.1) e).trans rfl, (congrArg (·.2.2.1) e).trans rfl, (congrArg (·.2.2.2) e).trans rfl⟩
  | n + 1, hn => by
    obtain ⟨i1, i2, i3⟩ := outs_eq n (Nat.lt_of_succ_lt hn)
    have hN : n + 1 < 10 := lt_of_lt_of_eq hn (show cfg0.N = 10 from N_0)
    have ep : (⟨n + 1, hn⟩ : Fin cfg0.N) = pt (n + 1) := (pt_val ⟨n + 1, hn⟩).symm
    have h0 : ¬(n + 1) % 10 = 0 := by omega
    by_cases h1 : (n + 1) % 10 = 9
    · have e := outsAt0_C m c ⟨n + 1, hn⟩ h0 h1
      rw [out_C_3, sout_C_0, sout_C_1] at e
      simp only [Nat.add_sub_cancel, i1, i2, i3] at e
      refine ⟨(congrArg (·.1) e).trans ?_, (congrArg (·.2.2.1) e).trans ?_, (congrArg (·.2.2.2) e).trans ?_⟩
      · rw [cellL, ← ep]; rfl
      · rw [cellC, ← ep]; rfl
      · rw [cellN, ← ep]; rfl
    · have e := outsAt0_B m c ⟨n + 1, hn⟩ h0 h1
      rw [out_B_3, sout_B_0, sout_B_1] at e
      simp only [Nat.add_sub_cancel, i1, i2, i3] at e
      refine ⟨(congrArg (·.1) e).trans ?_, (congrArg (·.2.2.1) e).trans ?_, (congrArg (·.2.2.2) e).trans ?_⟩
      · rw [cellL, ← ep]; rfl
      · rw [cellC, ← ep]; rfl
      · rw [cellN, ← ep]; rfl

/-- The last point leaves the quotient of the two counts in the accuracy cell. -/
theorem outs_acc (t : Fin cfg0.N) (h1 : t.val % 10 = 9) :
    (outsAt0 m c t.val t.isLt).2.1 = (fun _ => k0_pay3 (cellC m c 9) (cellN m c 9)) := by
  have hN : t.val < 10 := lt_of_lt_of_eq t.isLt (show cfg0.N = 10 from N_0)
  obtain ⟨n, hn⟩ := t
  obtain rfl : n = 9 := by
    have : n % 10 = 9 := h1
    have : n < 10 := hN
    omega
  have e := outsAt0_C m c ⟨9, hn⟩ (by show ¬ 9 % 10 = 0; decide) rfl
  obtain ⟨i1, i2, i3⟩ := outs_eq m c 8 (Nat.lt_of_succ_lt hn)
  rw [out_C_4] at e
  simp only [show 9 - 1 = 8 from rfl, i1, i2, i3] at e
  refine (congrArg (·.2.1) e).trans ?_
  rfl

/-- The loss array after the run. -/
theorem arr_loss : (dats m 0 c).arrAt 3 cfg0.N = (fun _ => cellL m c 9 : S1x1.Idx → F .f32) := by
  refine (dats m 0 c).arrAt_eq_of_covers 3 _ (by decide +kernel) fun t hf y => ?_
  have h1 := (flush0_3 t).mp hf
  have hN : t.val < 10 := lt_of_lt_of_eq t.isLt (show cfg0.N = 10 from N_0)
  have h9 : t.val = 9 := by omega
  rw [after0_3, (outs_eq m c t.val t.isLt).1, h9]
  rfl

/-- The accuracy array after the run. -/
theorem arr_acc : (dats m 0 c).arrAt 4 cfg0.N = (fun _ => k0_pay3 (cellC m c 9) (cellN m c 9) : S1x1.Idx → F .f32) := by
  refine (dats m 0 c).arrAt_eq_of_covers 4 _ (by decide +kernel) fun t hf y => ?_
  have h1 := (flush0_4 t).mp hf
  rw [after0_4, outs_acc m c t h1]
  rfl

/-- What the reshapes after the region leave in a result: the array of the region's output, one cell. -/
theorem tail_loss : Pipeline.afterTail₀ cfgs (dats m) 0 (V0 m) [hostOps1] c main_v1 = (fun _ => cellL m c 9 : S_.Idx → F .f32) := by
  unfold Pipeline.afterTail₀
  simp only [List.flatten_cons, List.flatten_nil, List.append_nil, hostOps1]
  after_results
  have e := (Pipeline.withArrays_arr spec0 winFacts0.arr_inj c (V0 m c) (fun w => (dats m 0 c).arrAt w cfg0.N) 3).trans (arr_loss m c)
  funext i
  exact congrFun e _

/-- The same of the accuracy. -/
theorem tail_acc : Pipeline.afterTail₀ cfgs (dats m) 0 (V0 m) [hostOps1] c main_v2 = (fun _ => k0_pay3 (cellC m c 9) (cellN m c 9) : S_.Idx → F .f32) := by
  unfold Pipeline.afterTail₀
  simp only [List.flatten_cons, List.flatten_nil, List.append_nil, hostOps1]
  after_results
  have e := (Pipeline.withArrays_arr spec0 winFacts0.arr_inj c (V0 m c) (fun w => (dats m 0 c).arrAt w cfg0.N) 4).trans (arr_acc m c)
  funext i
  exact congrFun e _

/-- The kernel's run: the two results hold the last cells, the arguments are unchanged. -/
theorem run (ρ : Dev nD → PrngReg) :
    θ_run defs (onTc (τ := τ) (main (F := F))) ⟨m, fun _ => 0, ρ⟩ fun r => ∀ c : Dev nD,
      r.2.mem ((c.tc : Thread nD τ).loc main_v1) = (fun _ => cellL m c 9 : S_.Idx → F .f32)
      ∧ r.2.mem ((c.tc : Thread nD τ).loc main_v2) = (fun _ => k0_pay3 (cellC m c 9) (cellN m c 9) : S_.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 (by decide)).trans (tail_loss m c),
    ((h c).2 main_v2 (by decide)).trans (tail_acc m c),
    ((h c).1 1).trans (((dats m 0 c).arrAt_in 1 rfl _).trans ((A_eq m c 1).trans (V_main_arg0 m c))),
    ((h c).1 0).trans (((dats m 0 c).arrAt_in 0 rfl _).trans ((A_eq m c 0).trans (V_main_arg1 m c))),
    ((h c).1 2).trans (((dats m 0 c).arrAt_in 2 rfl _).trans ((A_eq m c 2).trans (V_main_arg2 m c)))⟩) (run_main m ρ)

end Cert.KernelIdeal.Hand

end
-- ==== Proof.Blk.lean ====
/- The blocks a grid point is given, read at an index. -/
module
public import proofs.«01_k».proof.Proof.RunK
public import Idealize.ShloMosaic.Lib.Pointwise
@[expose] public section
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ) (c : Dev nD)

/-- At grid point `t` the label block is the sample group's, the feature block the group's and the class group's, and the weights are whole. -/
theorem idx : ∀ t : Fin cfg0.N, win0_0.index t = ![t.val / 5, 0] ∧ win0_1.index t = ![t.val / 5, t.val % 5] ∧ win0_2.index t = ![0, 0] :=
  (by decide +kernel : ∀ t : Fin grid0.N, _)

/-- The label block read at `(r, k)` is the label of sample `128 * (t / 5) + r`. -/
theorem blk_lab (t : Fin cfg0.N) (r : Fin 128) (k : Fin 80) (h : 128 * (t.val / 5) + r.val < 256) :
    (iblk m c 0 t : Vec F S128x80 .i32) (ix2 r k) = (m ((c.tc : Thread nD τ).loc main_arg1) : Vec F S256x80 .i32) (ix2 ⟨128 * (t.val / 5) + r.val, h⟩ k) := by
  blk_point [iblk, V_main_arg1, idx t]

/-- The feature block read at `(r, q)` is the feature of its sample and its column. -/
theorem blk_x (t : Fin cfg0.N) (r : Fin 128) (q : Fin 32768) (h : 128 * (t.val / 5) + r.val < 256) (h' : 32768 * (t.val % 5) + q.val < 163840) :
    (iblk m c 1 t : Vec F S128x32768 .f32) (ix2 r q)
      = (m ((c.tc : Thread nD τ).loc main_arg0) : Vec F S256x163840 .f32) (ix2 ⟨128 * (t.val / 5) + r.val, h⟩ ⟨32768 * (t.val % 5) + q.val, h'⟩) := by
  blk_point [iblk, V_main_arg0, idx t]

/-- The weight block is the whole weight array. -/
theorem blk_w (t : Fin cfg0.N) (k : Fin 80) (q : Fin 2048) :
    (iblk m c 2 t : Vec F S80x2048 .f32) (ix2 k q) = (m ((c.tc : Thread nD τ).loc main_arg2) : Vec F S80x2048 .f32) (ix2 k q) := by
  blk_point [iblk, V_main_arg2, idx t]

end Cert.KernelIdeal.Hand
end
-- ==== Proof.RefPoint.lean ====
/- The reference's values at the extended reals, read at an index. -/
module
public import proofs.«01_k».proof.Proof.RefRun
public import Idealize.ShloMosaic.Lib.Pointwise
public import Idealize.ShloMosaic.PureOps.Ideal.Laws
@[expose] public section
set_option maxRecDepth 16384
noncomputable section
namespace Cert.ReferenceIdeal.Hand
open Cert.ReferenceIdeal Cert.ReferenceIdeal.Gen Idealize.ShloMosaic Idealize.ShloMosaic.TcCoe Idealize.SL.Sem

/-- A logit is the inner product of a slice of a row of `x` with a row of the weights. -/
theorem logits_ap (x : FVec Ideal S256x163840 .f32) (w : FVec Ideal S80x2048 .f32) (b : Fin 256) (c k : Fin 80) :
    (logits (F := Ideal) x w (ix3 b c k) : EReal)
      = ∑ q : Fin 2048, (x (ix2 b ⟨c.val * 2048 + q.val, by have := c.isLt; have := q.isLt; omega⟩) : EReal) * w (ix2 k q) := by
  pointwise [logits]

/-- The mask as a number. -/
theorem maskF_ap (lab : IVec S256x80 32) (b : Fin 256) (c : Fin 80) :
    maskF (F := Ideal) lab (ix2 b c) = FloatOps.uitofp (F := Ideal) .f32 (IntOp.cmpi .sgt (lab (ix2 b c)) 0#32) := by
  pointwise [maskF, mask]

/-- The logarithm of the summed exponentials of a row. -/
theorem lse_ap (L : FVec Ideal S256x80x80 .f32) (b : Fin 256) (c : Fin 80) :
    lse (F := Ideal) L (ix2 b c) = Ideal.log (∑ k : Fin 80, Ideal.exp (L (ix3 b c k))) := by
  pointwise [lse]

/-- The loss as sums. -/
theorem loss_ap (L : FVec Ideal S256x80x80 .f32) (lab : IVec S256x80 32) (i : S_.Idx) :
    loss (F := Ideal) L lab i = Ideal.div (∑ b : Fin 256, if 0 < ∑ c : Fin 80, (maskF (F := Ideal) lab (ix2 b c) : EReal) then
          Ideal.div (∑ c : Fin 80, ((lse (F := Ideal) L (ix2 b c) : EReal) - diag (F := Ideal) L (ix2 b c)) * maskF (F := Ideal) lab (ix2 b c))
            (max (∑ c : Fin 80, (maskF (F := Ideal) lab (ix2 b c) : EReal)) 1)
        else 0) (Ideal.ofBits .f32 0x43800000#32) := by
  pointwise [loss, sampleLoss, count]

/-- The accuracy as sums. -/
theorem acc_ap (L : FVec Ideal S256x80x80 .f32) (lab : IVec S256x80 32) (i : S_.Idx) :
    acc (F := Ideal) L lab i = Ideal.div (∑ b : Fin 256, ∑ c : Fin 80, FloatOps.uitofp (F := Ideal) .f32
            (IntOp.andi (IntOp.cmpi .eq (pred (F := Ideal) L (ix2 b c)) (BitVec.ofNat 32 c.val)) (IntOp.cmpi .sgt (lab (ix2 b c)) 0#32)))
      (∑ b : Fin 256, ∑ c : Fin 80, (maskF (F := Ideal) lab (ix2 b c) : EReal)) := by
  pointwise [acc, hit, mask]

end Cert.ReferenceIdeal.Hand
end
-- ==== Proof.RefArg.lean ====
/- The reference's diagonal and arg-max at the extended reals, read at an index. -/
module
public import proofs.«01_k».proof.Proof.RefRun
public import Idealize.ShloMosaic.Lib.Pointwise
public import Idealize.ShloMosaic.PureOps.Ideal.Laws
@[expose] public section
set_option maxRecDepth 16384
noncomputable section
namespace Cert.ReferenceIdeal.Hand
open Cert.ReferenceIdeal Cert.ReferenceIdeal.Gen Idealize.ShloMosaic Idealize.ShloMosaic.TcCoe Idealize.SL.Sem

/-- The start indices of the diagonal: both components of row `c` are `c`. -/
theorem diagIdx_ap (c : Fin 80) (e : Fin 2) : diagIdx (ix2 c e) = BitVec.ofNat 32 c.val := by
  have hc : ∀ c : Fin 80, diagCol (ix1 c) = BitVec.ofNat 32 c.val := by
    intro c
    pointwise [diagCol]
    revert c
    decide +kernel
  rw [← hc c]
  fin_cases e
  · pointwise [diagIdx]
  · pointwise [diagIdx]

/-- The diagonal at `(b, c)` is the logit of class `c` in row `(b, c)`. -/
theorem diag_ap (L : FVec Ideal S256x80x80 .f32) (b : Fin 256) (c : Fin 80) : diag (F := Ideal) L (ix2 b c) = L (ix3 b c c) := by
  unfold diag Host.gather
  refine congrArg L (funext fun a => Fin.ext ?_)
  show (gather_S256x80x80_S80x2_S256x80_0_12_n_n_12_1_25611).start (ix2 b c) diagIdx a
      + (gather_S256x80x80_S80x2_S256x80_0_12_n_n_12_1_25611).batchCoord (ix2 b c) a
      + (gather_S256x80x80_S80x2_S256x80_0_12_n_n_12_1_25611).offCoord (ix2 b c) a = _
  rw [GatherDims.batchCoord_eq_zero _ _ _ List.not_mem_nil]
  have hcl : ∀ c : Fin 80, min (BitVec.ofNat 32 c.val).toInt.toNat (80 - 1) = c.val := by decide +kernel
  match a with
  | ⟨0, _⟩ =>
    have h0 : (gather_S256x80x80_S80x2_S256x80_0_12_n_n_12_1_25611).start (ix2 b c) diagIdx 0 = 0 := by
      unfold GatherDims.start
      rw [dif_neg (by decide)]
    have h1 : (gather_S256x80x80_S80x2_S256x80_0_12_n_n_12_1_25611).offCoord (ix2 b c) 0 = b.val := by
      unfold GatherDims.offCoord
      rw [dif_pos (by decide)]
      rfl
    rw [show (⟨0, _⟩ : Fin 3) = 0 from rfl, h0, h1]
    show 0 + 0 + b.val = b.val
    omega
  | ⟨1, _⟩ =>
    have h0 : (gather_S256x80x80_S80x2_S256x80_0_12_n_n_12_1_25611).start (ix2 b c) diagIdx 1 = c.val := by
      unfold GatherDims.start
      have hm : (1 : Fin 3) ∈ (gather_S256x80x80_S80x2_S256x80_0_12_n_n_12_1_25611).startIndexMap := by decide
      have hsi : (gather_S256x80x80_S80x2_S256x80_0_12_n_n_12_1_25611).siIdx (ix2 b c)
          ⟨List.idxOf (1 : Fin 3) (gather_S256x80x80_S80x2_S256x80_0_12_n_n_12_1_25611).startIndexMap, List.idxOf_lt_length_iff.2 hm⟩ = ix2 c (0 : Fin 2) := by
        funext e; refine Fin.ext ?_
        match e with
        | ⟨0, _⟩ => rfl
        | ⟨1, _⟩ => rfl
      rw [dif_pos hm, hsi, diagIdx_ap]
      exact hcl c
    have h1 : (gather_S256x80x80_S80x2_S256x80_0_12_n_n_12_1_25611).offCoord (ix2 b c) 1 = 0 :=
      GatherDims.offCoord_eq_zero _ _ _ (by decide)
    rw [show (⟨1, _⟩ : Fin 3) = 1 from rfl, h0, h1]
    show c.val + 0 + 0 = c.val
    omega
  | ⟨2, _⟩ =>
    have h0 : (gather_S256x80x80_S80x2_S256x80_0_12_n_n_12_1_25611).start (ix2 b c) diagIdx 2 = c.val := by
      unfold GatherDims.start
      have hm : (2 : Fin 3) ∈ (gather_S256x80x80_S80x2_S256x80_0_12_n_n_12_1_25611).startIndexMap := by decide
      have hsi : (gather_S256x80x80_S80x2_S256x80_0_12_n_n_12_1_25611).siIdx (ix2 b c)
          ⟨List.idxOf (2 : Fin 3) (gather_S256x80x80_S80x2_S256x80_0_12_n_n_12_1_25611).startIndexMap, List.idxOf_lt_length_iff.2 hm⟩ = ix2 c (1 : Fin 2) := by
        funext e; refine Fin.ext ?_
        match e with
        | ⟨0, _⟩ => rfl
        | ⟨1, _⟩ => rfl
      rw [dif_pos hm, hsi, diagIdx_ap]
      exact hcl c
    have h1 : (gather_S256x80x80_S80x2_S256x80_0_12_n_n_12_1_25611).offCoord (ix2 b c) 2 = 0 :=
      GatherDims.offCoord_eq_zero _ _ _ (by decide)
    rw [show (⟨2, _⟩ : Fin 3) = 2 from rfl, h0, h1]
    show c.val + 0 + 0 = c.val
    omega

/-- Pair `q` is no better than pair `p`: a smaller value, or the same value at the same index or a later one. -/
def Beats (p q : EReal × BitVec 32) : Prop := q.1 < p.1 ∨ (q.1 = p.1 ∧ p.2.toInt ≤ q.2.toInt)

/-- Every pair is at least as good as itself. -/
theorem Beats.refl (p : EReal × BitVec 32) : Beats p p := .inr ⟨rfl, le_refl _⟩

/-- Being at least as good is transitive. -/
theorem Beats.trans {p q r : EReal × BitVec 32} (h : Beats p q) (h' : Beats q r) : Beats p r := by
  rcases h with h | ⟨h1, h2⟩ <;> rcases h' with h' | ⟨h1', h2'⟩
  · exact .inl (h'.trans h)
  · exact .inl (h1' ▸ h)
  · exact .inl (h1 ▸ h')
  · exact .inr ⟨h1'.trans h1, h2.trans h2'⟩

/-- One step of the arg-max picks one of its two pairs, and the picked one is no worse than either. -/
theorem step_ap (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have key : reducer_argmax_f32_i32 (F := Ideal) (x, i) (y, j)
      = if y < x then (x, i) else if x = y ∧ i.toInt < j.toInt then (x, i) else (y, j) := by
    unfold reducer_argmax_f32_i32
    simp only [Ideal.cmpf_def, Ideal.cmp, IntOp.cmpi, IntOp.ori, IntOp.andi, Scalar.select, BitVec.slt]
    by_cases h1 : y < x
    · by_cases h2 : x = y <;> by_cases h3 : i.toInt < j.toInt <;> simp [h1, h2, h3]
    · by_cases h2 : x = y <;> by_cases h3 : i.toInt < j.toInt <;> simp [h1, h2, h3]
  rw [key]
  by_cases h1 : y < x
  · rw [if_pos h1]; exact ⟨.inl rfl, .refl _, .inl h1⟩
  · rw [if_neg h1]
    by_cases h2 : x = y ∧ i.toInt < j.toInt
    · rw [if_pos h2]; exact ⟨.inl rfl, .refl _, .inr ⟨h2.1.symm, h2.2.le⟩⟩
    · rw [if_neg h2]
      refine ⟨.inr rfl, ?_, .refl _⟩
      rcases lt_or_eq_of_le (not_lt.mp h1) with h | h
      · exact .inl h
      · exact .inr ⟨h, not_lt.mp fun h' => h2 ⟨h, h'⟩⟩

/-- A fold of the step over a list is one of the pairs met and is no worse than any of them. -/
theorem fold_ap (l : List (EReal × BitVec 32)) (p : EReal × BitVec 32) :
    (l.foldl (reducer_argmax_f32_i32 (F := Ideal)) p = p ∨ l.foldl (reducer_argmax_f32_i32 (F := Ideal)) p ∈ l)
      ∧ Beats (l.foldl (reducer_argmax_f32_i32 (F := Ideal)) p) p
      ∧ ∀ q ∈ l, Beats (l.foldl (reducer_argmax_f32_i32 (F := Ideal)) p) q := by
  induction l generalizing p with
  | nil => exact ⟨.inl rfl, .refl _, fun q hq => absurd hq List.not_mem_nil⟩
  | cons a l ih =>
    obtain ⟨i1, i2, i3⟩ := ih (reducer_argmax_f32_i32 (F := Ideal) p a)
    obtain ⟨s1, s2, s3⟩ := step_ap p a
    rw [List.foldl_cons]
    refine ⟨?_, i2.trans s2, fun q hq => ?_⟩
    · rcases i1 with h | h
      · rcases s1 with h' | h'
        · exact .inl (h.trans h')
        · exact .inr (by rw [h, h']; exact List.mem_cons_self)
      · exact .inr (List.mem_cons_of_mem _ h)
    · rcases List.mem_cons.mp hq with rfl | hq
      · exact i2.trans s3
      · exact i3 q hq

/-- The predicted class of a row without `−∞`: the first class whose logit is the greatest. -/
theorem pred_ap (L : FVec Ideal S256x80x80 .f32) (b : Fin 256) (c : Fin 80) (hL : ∀ k : Fin 80, ⊥ < (L (ix3 b c k) : EReal)) :
    ∃ k : Fin 80, pred (F := Ideal) L (ix2 b c) = BitVec.ofNat 32 k.val
      ∧ ∀ k' : Fin 80, (L (ix3 b c k') : EReal) < L (ix3 b c k) ∨ ((L (ix3 b c k') : EReal) = L (ix3 b c k) ∧ k.val ≤ k'.val) := by
  have hp : pred (F := Ideal) L (ix2 b c) = ((Host.argReduceFiber L (iotaInDim S256x80x80 32 2) reducesTo_S256x80x80_S256x80_d2 (ix2 b c)).foldl
      (reducer_argmax_f32_i32 (F := Ideal)) (⊥, 0#32)).2 := by
    unfold pred
    rw [Ideal.argReduce_eq_reduce2, Host.reduce2_eq_foldl_fiber]
    have hb : Ideal.ofBits .f32 0xFF800000#32 = ⊥ := by
      simp [Ideal.ofBits, Ideal.ieee]
    show (List.foldl _ (Ideal.ofBits .f32 0xFF800000#32, 0#32) _).2 = _
    rw [hb]
  have hmem : ∀ q : EReal × BitVec 32, q ∈ Host.argReduceFiber (α := EReal) L (iotaInDim S256x80x80 32 2) reducesTo_S256x80x80_S256x80_d2 (ix2 b c)
      ↔ ∃ k : Fin 80, q = (L (ix3 b c k), BitVec.ofNat 32 k.val) := by
    intro q
    unfold Host.argReduceFiber
    rw [List.mem_map]
    constructor
    · rintro ⟨n, hn, rfl⟩
      have hd := of_decide_eq_true (List.mem_filter.1 hn).2
      generalize S256x80x80.rowMajor.symm n = i at hd ⊢
      have h0 := (reducesTo_S256x80x80_S256x80_d2.drop_apply_val_of_eq i 0 0).symm.trans (congrArg (fun y : S256x80.Idx => (y 0).val) hd)
      have h1 := (reducesTo_S256x80x80_S256x80_d2.drop_apply_val_of_eq i 1 1).symm.trans (congrArg (fun y : S256x80.Idx => (y 1).val) hd)
      have hi : i = ix3 b c (i 2) := by
        funext a
        refine Fin.ext ?_
        match a with
        | ⟨0, _⟩ => exact h0
        | ⟨1, _⟩ => exact h1
        | ⟨2, _⟩ => rfl
      refine ⟨i 2, ?_⟩
      rw [hi]
      rfl
    · rintro ⟨k, rfl⟩
      refine ⟨S256x80x80.rowMajor (ix3 b c k), List.mem_filter.2 ⟨List.mem_finRange _, ?_⟩, ?_⟩
      · refine decide_eq_true ?_
        rw [Equiv.symm_apply_apply]
        funext a
        refine Fin.ext ?_
        match a with
        | ⟨0, _⟩ => exact reducesTo_S256x80x80_S256x80_d2.drop_apply_val_of_eq (ix3 b c k) 0 0
        | ⟨1, _⟩ => exact reducesTo_S256x80x80_S256x80_d2.drop_apply_val_of_eq (ix3 b c k) 1 1
      · rw [Equiv.symm_apply_apply]
        rfl
  obtain ⟨f1, f2, f3⟩ := fold_ap (Host.argReduceFiber (α := EReal) L (iotaInDim S256x80x80 32 2) reducesTo_S256x80x80_S256x80_d2 (ix2 b c)) (⊥, 0#32)
  rw [hp]
  generalize List.foldl (reducer_argmax_f32_i32 (F := Ideal)) (⊥, 0#32)
    (Host.argReduceFiber (α := EReal) L (iotaInDim S256x80x80 32 2) reducesTo_S256x80x80_S256x80_d2 (ix2 b c)) = p at f1 f2 f3 ⊢
  have hin : ∃ k : Fin 80, p = (L (ix3 b c k), BitVec.ofNat 32 k.val) := by
    rcases f1 with rfl | h
    · have h0 := f3 _ ((hmem _).2 ⟨0, rfl⟩)
      rcases h0 with h | ⟨h, -⟩
      · exact absurd h not_lt_bot
      · exact absurd h (hL 0).ne'
    · exact (hmem p).1 h
  obtain ⟨k, rfl⟩ := hin
  refine ⟨k, rfl, fun k' => ?_⟩
  rcases f3 _ ((hmem _).2 ⟨k', rfl⟩) with h | ⟨h, h'⟩
  · exact .inl h
  · refine .inr ⟨h, ?_⟩
    have hi : ∀ n : Fin 80, (BitVec.ofNat 32 n.val).toInt = (n.val : ℤ) := by decide +kernel
    have h'' : (BitVec.ofNat 32 k.val).toInt ≤ (BitVec.ofNat 32 k'.val).toInt := h'
    rw [hi, hi] at h''
    exact_mod_cast h''

end Cert.ReferenceIdeal.Hand
end
-- ==== Proof.Value.lean ====
/- The two results of the kernel are the reference's, at finite inputs. -/
module
public import proofs.«01_k».proof.Proof.Cells
public import proofs.«01_k».proof.Proof.Blk
public import proofs.«01_k».proof.Proof.RefPoint
public import proofs.«01_k».proof.Proof.RefArg
@[expose] public section
set_option maxRecDepth 16384
noncomputable section
namespace Cert.KernelIdeal.Hand
open Cert.KernelIdeal Cert.KernelIdeal.Gen Idealize.ShloMosaic Idealize.ShloMosaic.TcCoe Idealize.SL.Sem

/-- Sample number `n`. -/
def smp (n : ℕ) : Fin 256 := ⟨n % 256, Nat.mod_lt _ (by decide)⟩
/-- Class number `n`. -/
def cl (n : ℕ) : Fin 80 := ⟨n % 80, Nat.mod_lt _ (by decide)⟩

/-- The logit `(b, c, k)` of real inputs. -/
def lgR (X : S256x163840.Idx → ℝ) (W : S80x2048.Idx → ℝ) (b : Fin 256) (c k : Fin 80) : ℝ :=
  ∑ q : Fin 2048, X (ix2 b ⟨c.val * 2048 + q.val, by have := c.isLt; have := q.isLt; omega⟩) * W (ix2 k q)

/-- The mask as a real number. -/
def mkR (lab : IVec S256x80 32) (b : Fin 256) (c : Fin 80) : ℝ := ((IntOp.cmpi .sgt (lab (ix2 b c)) 0#32).toNat : ℝ)

/-- The mask is never negative. -/
theorem mkR_nonneg (lab : IVec S256x80 32) (b : Fin 256) (c : Fin 80) : 0 ≤ mkR lab b c := Nat.cast_nonneg _

/-- A sum over numbered samples and classes is the sum over the samples and classes. -/
theorem sum_fin (g : Fin 256 → Fin 80 → ℝ) :
    ∑ b ∈ Finset.range 256, ∑ c ∈ Finset.range 80, g (smp b) (cl c) = ∑ b : Fin 256, ∑ c : Fin 80, g b c := by
  rw [Finset.sum_range]
  refine Finset.sum_congr rfl fun b _ => ?_
  rw [Finset.sum_range]
  refine Finset.sum_congr rfl fun c _ => ?_
  rw [show smp b.val = b from Fin.ext (Nat.mod_eq_of_lt b.isLt), show cl c.val = c from Fin.ext (Nat.mod_eq_of_lt c.isLt)]

/-- An accumulation over the ten grid points of column sums of real numbers. -/
theorem accum (g : Fin 256 → Fin 80 → ℝ) (cell : ℕ → EReal) (col : ℕ → Fin 128 → EReal)
    (h0 : cell 0 = 0 + ∑ r, col 0 r) (hs : ∀ n, cell (n + 1) = cell n + ∑ r, col (n + 1) r)
    (hc : ∀ n, n < 10 → ∀ r : Fin 128, col n r = ((∑ j ∈ Finset.range 16, g (smp (128 * (n / 5) + r.val)) (cl (16 * (n % 5) + j)) : ℝ) : EReal)) :
    cell 9 = ((∑ b : Fin 256, ∑ c : Fin 80, g b c : ℝ) : EReal) := by
  have hn : ∀ n, n < 10 → cell n = ((∑ t ∈ Finset.range (n + 1), ∑ r ∈ Finset.range 128, ∑ j ∈ Finset.range 16,
      g (smp (128 * (t / 5) + r)) (cl (16 * (t % 5) + j)) : ℝ) : EReal) := by
    intro n
    induction n with
    | zero =>
      intro h
      rw [h0, zero_add, Finset.sum_range_one, Finset.sum_range]
      rw [← coe_sum]
      exact Finset.sum_congr rfl fun r _ => hc 0 h r
    | succ n ih =>
      intro h
      rw [hs, ih (by omega), Finset.sum_range_succ _ (n + 1), EReal.coe_add, Finset.sum_range (n := 128)]
      congr 1
      rw [← coe_sum]
      exact Finset.sum_congr rfl fun r _ => hc (n + 1) h r
  rw [hn 9 (by decide), sum_points fun b c => g (smp b) (cl c), sum_fin]

variable (m : (ℓ : Loc nD τ sig) → Buf (Elt Ideal) ℓ) (d : Dev nD)

/-- The point's two coordinates from its number. -/
theorem coord1 (n : ℕ) (hn : n < 10) : (grid0.coords (pt n) 1).val = n % 5 := by
  have e : ∀ t : Fin cfg0.N, (grid0.coords t 1).val = t.val % 5 := (by decide +kernel : ∀ t : Fin grid0.N, (grid0.coords t 1).val = t.val % 5)
  rw [e (pt n)]
  show n % 10 % 5 = n % 5
  omega

section Reads
variable (X : S256x163840.Idx → ℝ) (W : S80x2048.Idx → ℝ)
variable (hX : ∀ i, (m ((d.tc : Thread nD τ).loc main_arg0) : Vec Ideal S256x163840 .f32) i = ((X i : ℝ) : EReal))
variable (hW : ∀ i, (m ((d.tc : Thread nD τ).loc main_arg2) : Vec Ideal S80x2048 .f32) i = ((W i : ℝ) : EReal))

/-- The mask block of a point. -/
theorem mask_read (n : ℕ) (hn : n < 10) (r : Fin 128) (k : Fin 80) :
    (k0_pay4 (F := Ideal) (iblk m d 0 (pt n)) (ix2 r k) : EReal)
      = ((mkR (m ((d.tc : Thread nD τ).loc main_arg1)) (smp (128 * (n / 5) + r.val)) k : ℝ) : EReal) := by
  have hv : (pt n).val = n := Nat.mod_eq_of_lt hn
  have hr := r.isLt
  have hb : 128 * ((pt n).val / 5) + r.val < 256 := by rw [hv]; omega
  rw [pay4_ap, blk_lab m d (pt n) r k hb]
  have es : (⟨128 * ((pt n).val / 5) + r.val, hb⟩ : Fin 256) = smp (128 * (n / 5) + r.val) :=
    Fin.ext (by show 128 * ((pt n).val / 5) + r.val = (128 * (n / 5) + r.val) % 256; omega)
  rw [es]
  rfl

include hX hW in
/-- The logits of a point. -/
theorem logit_read (n : ℕ) (hn : n < 10) (r : Fin 128) (j : ℕ) (hj : j < 16) (k : Fin 80) :
    (k0_pay9 (F := Ideal) (iblk m d 2 (pt n)) (slab (iblk m d 1 (pt n)) j) (ix2 r k) : EReal)
      = ((lgR X W (smp (128 * (n / 5) + r.val)) (cl (16 * (n % 5) + j)) k : ℝ) : EReal) := by
  have hv : (pt n).val = n := Nat.mod_eq_of_lt hn
  have hr := r.isLt
  rw [pay9_ap]
  unfold lgR
  rw [← coe_sum]
  refine Finset.sum_congr rfl fun q _ => ?_
  have hq := q.isLt
  have hb : 128 * ((pt n).val / 5) + r.val < 256 := by rw [hv]; omega
  have hq' : (2048 * j + q.val) % 32768 < 32768 := Nat.mod_lt _ (by decide)
  have hb' : 32768 * ((pt n).val % 5) + (⟨(2048 * j + q.val) % 32768, hq'⟩ : Fin 32768).val < 163840 := by
    rw [hv]; show 32768 * (n % 5) + (2048 * j + q.val) % 32768 < 163840; omega
  have e1 : (slab (iblk m d 1 (pt n)) j (ix2 r q) : EReal) = (iblk m d 1 (pt n) : Vec Ideal S128x32768 .f32) (ix2 r ⟨(2048 * j + q.val) % 32768, hq'⟩) := rfl
  rw [e1, blk_x m d (pt n) r _ hb hb', hX, blk_w m d (pt n) k q, hW, EReal.coe_mul]
  have es : (⟨128 * ((pt n).val / 5) + r.val, hb⟩ : Fin 256) = smp (128 * (n / 5) + r.val) :=
    Fin.ext (by show 128 * ((pt n).val / 5) + r.val = (128 * (n / 5) + r.val) % 256; omega)
  rw [es]
  congr 4
  refine Fin.ext ?_
  show 32768 * ((pt n).val % 5) + (2048 * j + q.val) % 32768 = (16 * (n % 5) + j) % 80 * 2048 + q.val
  rw [hv]
  omega

/-- Unrolled step `j` of grid point `n` works on class `16 * (n % 5) + j`, below 80. -/
theorem cls_read (n : ℕ) (hn : n < 10) (j : ℕ) (hj : j < 16) : (cl (16 * (n % 5) + j)).val = 16 * (grid0.coords (pt n) 1).val + j := by
  rw [coord1 n hn]
  show (16 * (n % 5) + j) % 80 = _
  omega

include hX hW in
/-- The loss cell at the end. -/
theorem lossCell : cellL m d 9 = ((∑ b : Fin 256, ∑ c : Fin 80,
      (lseR (lgR X W b c) - lgR X W b c c) * mkR (m ((d.tc : Thread nD τ).loc main_arg1)) b c
        * wgt (mkR (m ((d.tc : Thread nD τ).loc main_arg1)) b) : ℝ) : EReal) := by
  refine accum (fun b c => (lseR (lgR X W b c) - lgR X W b c c) * mkR (m ((d.tc : Thread nD τ).loc main_arg1)) b c
        * wgt (mkR (m ((d.tc : Thread nD τ).loc main_arg1)) b)) (cellL m d) (fun n r => colL m d (pt n) (ix2 r 0)) ?_ (fun n => pay1_ap _ _) ?_
  · have e : cellL m d 0 = k0_pay1 (F := Ideal) (colL m d (pt 0)) (Ideal.ofBits .f32 0x00000000#32) := rfl
    rw [e, pay1_ap, Ideal.ofBits_zero_f32]
  · intro n hn r
    exact lossC_ap (grid0.coords (pt n)) (iblk m d 0 (pt n)) (iblk m d 2 (pt n)) (slab (iblk m d 1 (pt n))) r
      (mkR (m ((d.tc : Thread nD τ).loc main_arg1)) (smp (128 * (n / 5) + r.val)))
      (fun j => lgR X W (smp (128 * (n / 5) + r.val)) (cl (16 * (n % 5) + j))) (fun j => cl (16 * (n % 5) + j))
      (mask_read m d n hn r) (fun j hj k => logit_read m d X W hX hW n hn r j hj k) (cls_read n hn) 16 (le_refl _)

include hX hW in
/-- The correct-prediction cell at the end, `p b c` being the first class attaining the greatest logit of row `(b, c)`. -/
theorem corrCell (p : Fin 256 → Fin 80 → Fin 80)
    (hp : ∀ b c k', lgR X W b c k' < lgR X W b c (p b c) ∨ (lgR X W b c k' = lgR X W b c (p b c) ∧ (p b c).val ≤ k'.val)) :
    cellC m d 9 = ((∑ b : Fin 256, ∑ c : Fin 80, (if p b c = c then mkR (m ((d.tc : Thread nD τ).loc main_arg1)) b c else 0) : ℝ) : EReal) := by
  refine accum (fun b c => if p b c = c then mkR (m ((d.tc : Thread nD τ).loc main_arg1)) b c else 0)
    (cellC m d) (fun n r => colC m d (pt n) (ix2 r 0)) ?_ (fun n => pay1_ap _ _) ?_
  · have e : cellC m d 0 = k0_pay1 (F := Ideal) (colC m d (pt 0)) (Ideal.ofBits .f32 0x00000000#32) := rfl
    rw [e, pay1_ap, Ideal.ofBits_zero_f32]
  · intro n hn r
    exact corrC_ap (grid0.coords (pt n)) (iblk m d 0 (pt n)) (iblk m d 2 (pt n)) (slab (iblk m d 1 (pt n))) r
      (mkR (m ((d.tc : Thread nD τ).loc main_arg1)) (smp (128 * (n / 5) + r.val)))
      (fun j => lgR X W (smp (128 * (n / 5) + r.val)) (cl (16 * (n % 5) + j))) (fun j => cl (16 * (n % 5) + j))
      (mask_read m d n hn r) (fun j hj k => logit_read m d X W hX hW n hn r j hj k) (cls_read n hn)
      (fun j => p (smp (128 * (n / 5) + r.val)) (cl (16 * (n % 5) + j))) (fun j _ k' => hp _ _ k') 16 (le_refl _)

end Reads

/-- The count cell at the end. -/
theorem numCell : cellN m d 9 = ((∑ b : Fin 256, ∑ c : Fin 80, mkR (m ((d.tc : Thread nD τ).loc main_arg1)) b c : ℝ) : EReal) := by
  refine accum (fun b c => mkR (m ((d.tc : Thread nD τ).loc main_arg1)) b c) (cellN m d) (fun n r => colN m d (pt n) (ix2 r 0)) ?_ (fun n => pay2_ap _ _) ?_
  · have e : cellN m d 0 = k0_pay2 (F := Ideal) (colN m d (pt 0)) (Ideal.ofBits .f32 0x00000000#32) := rfl
    rw [e, pay2_ap, Ideal.ofBits_zero_f32]
  · intro n hn r
    exact numC_ap (grid0.coords (pt n)) (iblk m d 0 (pt n)) r
      (mkR (m ((d.tc : Thread nD τ).loc main_arg1)) (smp (128 * (n / 5) + r.val))) (fun j => cl (16 * (n % 5) + j))
      (mask_read m d n hn r) (cls_read n hn) 16 (le_refl _)

/-- The kernel's accuracy, the quotient of its two counts. -/
theorem accCell (X : S256x163840.Idx → ℝ) (W : S80x2048.Idx → ℝ)
    (hX : ∀ i, (m ((d.tc : Thread nD τ).loc main_arg0) : Vec Ideal S256x163840 .f32) i = ((X i : ℝ) : EReal))
    (hW : ∀ i, (m ((d.tc : Thread nD τ).loc main_arg2) : Vec Ideal S80x2048 .f32) i = ((W i : ℝ) : EReal))
    (p : Fin 256 → Fin 80 → Fin 80)
    (hp : ∀ b c k', lgR X W b c k' < lgR X W b c (p b c) ∨ (lgR X W b c k' = lgR X W b c (p b c) ∧ (p b c).val ≤ k'.val)) :
    k0_pay3 (F := Ideal) (cellC m d 9) (cellN m d 9)
      = Ideal.div ((∑ b : Fin 256, ∑ c : Fin 80, (if p b c = c then mkR (m ((d.tc : Thread nD τ).loc main_arg1)) b c else 0) : ℝ) : EReal)
          ((∑ b : Fin 256, ∑ c : Fin 80, mkR (m ((d.tc : Thread nD τ).loc main_arg1)) b c : ℝ) : EReal) := by
  rw [corrCell m d X W hX hW p hp, numCell m d]
  rfl

section Ref
variable (x : FVec Ideal S256x163840 .f32) (w : FVec Ideal S80x2048 .f32) (lab : IVec S256x80 32)
variable (X : S256x163840.Idx → ℝ) (W : S80x2048.Idx → ℝ) (hX : ∀ i, x i = ((X i : ℝ) : EReal)) (hW : ∀ i, w i = ((W i : ℝ) : EReal))

include hX hW in
/-- The reference's logits of real inputs. -/
theorem ref_logit (b : Fin 256) (c k : Fin 80) :
    (Cert.ReferenceIdeal.Hand.logits (F := Ideal) x w (ix3 b c k) : EReal) = ((lgR X W b c k : ℝ) : EReal) := by
  rw [Cert.ReferenceIdeal.Hand.logits_ap]
  unfold lgR
  rw [← coe_sum]
  refine Finset.sum_congr rfl fun q _ => ?_
  rw [hX, hW, EReal.coe_mul]

/-- The reference's mask, read at a sample and a class. -/
theorem ref_mask (b : Fin 256) (c : Fin 80) : (Cert.ReferenceIdeal.Hand.maskF (F := Ideal) lab (ix2 b c) : EReal) = ((mkR lab b c : ℝ) : EReal) := by
  rw [Cert.ReferenceIdeal.Hand.maskF_ap]; rfl

include hX hW in
/-- The reference's loss of real inputs, in the kernel's terms. -/
theorem ref_loss (i : S_.Idx) : (Cert.ReferenceIdeal.Hand.loss (F := Ideal) (Cert.ReferenceIdeal.Hand.logits x w) lab i : EReal)
    = ((∑ b : Fin 256, ∑ c : Fin 80, (lseR (lgR X W b c) - lgR X W b c c) * mkR lab b c * wgt (mkR lab b) : ℝ) : EReal) := by
  rw [Cert.ReferenceIdeal.Hand.loss_ap, c256, Ideal.div_coe (by norm_num)]
  have hb : ∀ b : Fin 256, (if 0 < ∑ c : Fin 80, (Cert.ReferenceIdeal.Hand.maskF (F := Ideal) lab (ix2 b c) : EReal) then
          Ideal.div (∑ c : Fin 80, ((Cert.ReferenceIdeal.Hand.lse (F := Ideal) (Cert.ReferenceIdeal.Hand.logits x w) (ix2 b c) : EReal)
              - Cert.ReferenceIdeal.Hand.diag (F := Ideal) (Cert.ReferenceIdeal.Hand.logits x w) (ix2 b c)) * Cert.ReferenceIdeal.Hand.maskF (F := Ideal) lab (ix2 b c))
            (max (∑ c : Fin 80, (Cert.ReferenceIdeal.Hand.maskF (F := Ideal) lab (ix2 b c) : EReal)) 1)
        else 0) = ((256 * ∑ c : Fin 80, (lseR (lgR X W b c) - lgR X W b c c) * mkR lab b c * wgt (mkR lab b) : ℝ) : EReal) := by
    intro b
    have h1 : ∀ c : Fin 80, (Cert.ReferenceIdeal.Hand.lse (F := Ideal) (Cert.ReferenceIdeal.Hand.logits x w) (ix2 b c) : EReal)
        = ((lseR (lgR X W b c) : ℝ) : EReal) := by
      intro c
      rw [Cert.ReferenceIdeal.Hand.lse_ap]
      simp only [ref_logit x w X W hX hW]
      exact lse_plain _
    have h2 : ∀ c : Fin 80, (Cert.ReferenceIdeal.Hand.diag (F := Ideal) (Cert.ReferenceIdeal.Hand.logits x w) (ix2 b c) : EReal)
        = ((lgR X W b c c : ℝ) : EReal) := by
      intro c
      rw [Cert.ReferenceIdeal.Hand.diag_ap, ref_logit x w X W hX hW]
    simp only [h1, h2, ref_mask, ← EReal.coe_sub, ← EReal.coe_mul]
    rw [coe_sum, coe_sum, coe_max_one, Ideal.div_coe (max_one_pos _).ne', ← EReal.coe_mul]
    by_cases hn : 0 < ∑ c : Fin 80, mkR lab b c
    · rw [if_pos (by exact_mod_cast hn)]
      congr 1
      rw [← Finset.sum_mul]
      unfold wgt
      have := (max_one_pos (∑ c : Fin 80, mkR lab b c)).ne'
      field_simp
    · rw [if_neg (by exact_mod_cast hn)]
      have hz : ∀ c : Fin 80, mkR lab b c = 0 := by
        intro c
        refine le_antisymm (le_trans ?_ (not_lt.mp hn)) (mkR_nonneg lab b c)
        exact Finset.single_le_sum (f := fun c => mkR lab b c) (fun c _ => mkR_nonneg lab b c) (Finset.mem_univ c)
      simp [hz]
  rw [Finset.sum_congr rfl fun b _ => hb b, coe_sum, ← EReal.coe_mul, ← Finset.mul_sum]
  congr 1
  ring

include hX hW in
/-- The reference's accuracy of real inputs, in the kernel's terms. -/
theorem ref_acc : ∃ p : Fin 256 → Fin 80 → Fin 80,
    (∀ b c k', lgR X W b c k' < lgR X W b c (p b c) ∨ (lgR X W b c k' = lgR X W b c (p b c) ∧ (p b c).val ≤ k'.val))
    ∧ ∀ i : S_.Idx, (Cert.ReferenceIdeal.Hand.acc (F := Ideal) (Cert.ReferenceIdeal.Hand.logits x w) lab i : EReal)
      = Ideal.div ((∑ b : Fin 256, ∑ c : Fin 80, (if p b c = c then mkR lab b c else 0) : ℝ) : EReal)
          ((∑ b : Fin 256, ∑ c : Fin 80, mkR lab b c : ℝ) : EReal) := by
  have H := fun (b : Fin 256) (c : Fin 80) => Cert.ReferenceIdeal.Hand.pred_ap (Cert.ReferenceIdeal.Hand.logits x w) b c fun k => by
    rw [ref_logit x w X W hX hW]; exact EReal.bot_lt_coe _
  choose p hp1 hp2 using H
  refine ⟨p, fun b c k' => ?_, fun i => ?_⟩
  · have h := hp2 b c k'
    rw [ref_logit x w X W hX hW, ref_logit x w X W hX hW, EReal.coe_lt_coe_iff, EReal.coe_eq_coe_iff] at h
    exact h
  · rw [Cert.ReferenceIdeal.Hand.acc_ap]
    simp only [ref_mask, ← coe_sum]
    refine congrArg (fun z : EReal => Ideal.div z _) ?_
    refine Finset.sum_congr rfl fun b _ => Finset.sum_congr rfl fun c _ => ?_
    have hi : ∀ a b : Fin 80, IntOp.cmpi .eq (BitVec.ofNat 32 a.val) (BitVec.ofNat 32 b.val) = BitVec.ofBool (decide (a = b)) := by
      decide +kernel
    rw [hp1, hi]
    unfold mkR
    generalize IntOp.cmpi CmpIPredicate.sgt (lab (ix2 b c)) 0#32 = t
    show (((IntOp.andi (BitVec.ofBool (decide (p b c = c))) t).toNat : ℝ) : EReal) = _
    have ht : ∀ (q : Bool) (t : BitVec 1), (IntOp.andi (BitVec.ofBool q) t).toNat = if q then t.toNat else 0 := by decide
    rw [ht]
    by_cases h : p b c = c
    · simp [h]
    · simp [h]

end Ref

/-- An extended real whose absolute value is below +∞ is a real number. -/
theorem real_of_finite (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

end Cert.KernelIdeal.Hand
end
-- ==== Proof.lean ====
/- The proof of the certificate's claim, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.RefRun
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments as they were and every semaphore at zero. -/
theorem frameR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Hand.run (F := Ideal) m ρ)

/-- The precondition says that every element of the two float arguments is a real number. -/
theorem reals (x : FVec Ideal Cert.Pre_finite_inputs.S256x163840 .f32) (lab : IVec Cert.Pre_finite_inputs.S256x80 32)
    (w : FVec Ideal Cert.Pre_finite_inputs.S80x2048 .f32)
    (h : (@Cert.Pre_finite_inputs.fn Cert.Pre_finite_inputs.Gen.facts Ideal _ x lab w).1 = (fun _ => 1#1)
      ∧ (@Cert.Pre_finite_inputs.fn Cert.Pre_finite_inputs.Gen.facts Ideal _ x lab w).2 = (fun _ => 1#1)) :
    (∀ i, ∃ a : ℝ, (x i : EReal) = (a : EReal)) ∧ (∀ i, ∃ a : ℝ, (w i : EReal) = (a : EReal)) := by
  have ht : Ideal.ofBits .f32 0x7F800000#32 = ⊤ := by simp [Ideal.ofBits, Ideal.ieee]
  constructor
  · intro i
    have e : Ideal.cmp .olt (max (x i : EReal) (-(x i : EReal))) (Ideal.ofBits .f32 0x7F800000#32) = 1#1 := congrFun h.1 i
    rw [ht] at e
    exact Cert.KernelIdeal.Hand.real_of_finite _ e
  · intro i
    have e : Ideal.cmp .olt (max (w i : EReal) (-(w i : EReal))) (Ideal.ofBits .f32 0x7F800000#32) = 1#1 := congrFun h.2 i
    rw [ht] at e
    exact Cert.KernelIdeal.Hand.real_of_finite _ e

/-- Both results of the kernel are the reference's, at inputs whose floats are finite. -/
theorem value : algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' pre agree
  refine ⟨fun c _ => Cert.KernelIdeal.Hand.cellL m c 9,
    fun c _ => Cert.KernelIdeal.Gen.k0_pay3 (F := Ideal) (Cert.KernelIdeal.Hand.cellC m c 9) (Cert.KernelIdeal.Hand.cellN m c 9),
    Cert.KernelIdeal.Hand.run (F := Ideal) m g, ?_⟩
  refine (θ_run Cert.ReferenceIdeal.defs _ _).mono (fun r h c => ?_) (Cert.ReferenceIdeal.Hand.run (F := Ideal) m' g')
  obtain ⟨h1, h2, h3⟩ := h c
  obtain ⟨a0, a1, a2⟩ := agree c
  obtain ⟨hx, hw⟩ := reals _ _ _ (pre c)
  choose X hX using hx
  choose W hW using hw
  refine ⟨h1.trans ?_, h2.trans ?_, h3⟩
  · rw [a0, a1, a2]
    funext i
    exact (Cert.KernelIdeal.Hand.ref_loss _ _ _ X W hX hW i).trans (Cert.KernelIdeal.Hand.lossCell m c X W hX hW).symm
  · rw [a0, a1, a2]
    funext i
    obtain ⟨p, hp, e⟩ := Cert.KernelIdeal.Hand.ref_acc (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1)) X W hX hW
    exact (e i).trans (Cert.KernelIdeal.Hand.accCell m c X W hX hW p hp).symm

/-- The certificate's claim. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => frameR m ρ, fun m ρ _ => frameR m ρ, trivial, value⟩

end Cert.Proof

end
